-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_values)) (v2 : (c : Dev Cert.KernelIdeal.nD) → Buf (Elt Ideal) ((c.tc : Thread Cert.KernelIdeal.nD Cert.KernelIdeal.τ).loc Cert.KernelIdeal.main_indices)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_cst_3)) (v5 : (c : Dev Cert.KernelIdeal.nD) → Buf (Elt Ideal) ((c.tc : Thread Cert.KernelIdeal.nD Cert.KernelIdeal.τ).loc Cert.KernelIdeal.main_cst_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_values) = v1 c
          ∧ r.2.mem ((c.tc : Thread Cert.KernelIdeal.nD Cert.KernelIdeal.τ).loc Cert.KernelIdeal.main_indices) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_cst_3) = v4 c
          ∧ r.2.mem ((c.tc : Thread Cert.KernelIdeal.nD Cert.KernelIdeal.τ).loc Cert.KernelIdeal.main_cst_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_cst_7) = v4 c
          ∧ r.2.mem ((c.tc : Thread Cert.ReferenceIdeal.nD Cert.ReferenceIdeal.τ).loc Cert.ReferenceIdeal.main_cst_8) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S4x4096x512 : Shape := ⟨3, ![4, 4096, 512]⟩
abbrev S4x4096 : Shape := ⟨2, ![4, 4096]⟩
abbrev S4x512 : Shape := ⟨2, ![4, 512]⟩
abbrev S4x512x4096 : Shape := ⟨3, ![4, 512, 4096]⟩
abbrev S2048x16384 : Shape := ⟨2, ![2048, 16384]⟩
abbrev S128x2048 : Shape := ⟨2, ![128, 2048]⟩
abbrev S128x16384 : Shape := ⟨2, ![128, 16384]⟩
abbrev S128x512 : Shape := ⟨2, ![128, 512]⟩
abbrev S1x512 : Shape := ⟨2, ![1, 512]⟩
abbrev S512 : Shape := ⟨1, ![512]⟩
abbrev S1x512x4096 : Shape := ⟨3, ![1, 512, 4096]⟩
abbrev S512x4096 : Shape := ⟨2, ![512, 4096]⟩
abbrev S128x4096 : Shape := ⟨2, ![128, 4096]⟩
abbrev S1x4096 : Shape := ⟨2, ![1, 4096]⟩
abbrev S4096 : Shape := ⟨1, ![4096]⟩
abbrev S2048x128 : Shape := ⟨2, ![2048, 128]⟩
abbrev S2048 : Shape := ⟨1, ![2048]⟩
abbrev S2048x1 : Shape := ⟨2, ![2048, 1]⟩
abbrev S_ : Shape := ⟨0, ![]⟩
abbrev S2048x128x1 : Shape := ⟨3, ![2048, 128, 1]⟩
abbrev S2048x128x2 : Shape := ⟨3, ![2048, 128, 2]⟩
abbrev S1x1 : Shape := ⟨2, ![1, 1]⟩
abbrev S1x2048 : Shape := ⟨2, ![1, 2048]⟩
abbrev S1x4096x512 : Shape := ⟨3, ![1, 4096, 512]⟩
abbrev S4096x512 : Shape := ⟨2, ![4096, 512]⟩
abbrev S1x128x2048 : Shape := ⟨3, ![1, 128, 2048]⟩
abbrev S1 : Shape := ⟨1, ![1]⟩
abbrev S1x1x1 : Shape := ⟨3, ![1, 1, 1]⟩
abbrev S1x1x2048 : Shape := ⟨3, ![1, 1, 2048]⟩

abbrev nBuf : Space → Nat
  | .hbm => 41
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S4x4096x512, .f32⟩
  | .hbm, ⟨2, _⟩ => ⟨S4x4096, .f32⟩
  | .hbm, ⟨3, _⟩ => ⟨S4x4096x512, .f32⟩
  | .hbm, ⟨4, _⟩ => ⟨S4x512, .f32⟩
  | .hbm, ⟨5, _⟩ => ⟨S4x512x4096, .f32⟩
  | .hbm, ⟨6, _⟩ => ⟨S2048x16384, .f32⟩
  | .hbm, ⟨7, _⟩ => ⟨S2048x128, .f32⟩
  | .hbm, ⟨8, _⟩ => ⟨S2048x128, .i32⟩
  | .hbm, ⟨9, _⟩ => ⟨S2048, .i32⟩
  | .hbm, ⟨10, _⟩ => ⟨S2048x1, .i32⟩
  | .hbm, ⟨11, _⟩ => ⟨S_, .f32⟩
  | .hbm, ⟨12, _⟩ => ⟨S2048x16384, .f32⟩
  | .hbm, ⟨13, _⟩ => ⟨S_, .i32⟩
  | .hbm, ⟨14, _⟩ => ⟨S2048x1, .i32⟩
  | .hbm, ⟨15, _⟩ => ⟨S2048x1, .i1⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S2048x1, .i32⟩
  | .hbm, ⟨20, _⟩ => ⟨S_, .i32⟩
  | .hbm, ⟨21, _⟩ => ⟨S2048x128, .i32⟩
  | .hbm, ⟨22, _⟩ => ⟨S2048x128, .i1⟩
  | .hbm, ⟨23, _⟩ => ⟨S_, .i32⟩
  | .hbm, ⟨24, _⟩ => ⟨S2048x128, .i32⟩
  | .hbm, ⟨25, _⟩ => ⟨S2048x128, .i32⟩
  | .hbm, ⟨26, _⟩ => ⟨S2048x128, .i32⟩
  | .hbm, ⟨27, _⟩ => ⟨S2048x128, .i32⟩
  | .hbm, ⟨28, _⟩ => ⟨S2048x128x1, .i32⟩
  | .hbm, ⟨29, _⟩ => ⟨S2048x128x1, .i32⟩
  | .hbm, ⟨30, _⟩ => ⟨S2048x128x2, .i32⟩
  | .hbm, ⟨31, _⟩ => ⟨S2048x16384, .f32⟩
  | .hbm, ⟨32, _⟩ => ⟨S2048x2048, .f32⟩
  | .hbm, ⟨33, _⟩ => ⟨S1x1, .f32⟩
  | .hbm, ⟨34, _⟩ => ⟨S1x1, .f32⟩
  | .hbm, ⟨35, _⟩ => ⟨S1x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S4x512x4096, .f32⟩
  | .local _ .vmem, ⟨3, _⟩ => ⟨S4x4096, .f32⟩
  | .local _ .vmem, ⟨4, _⟩ => ⟨S4x512, .f32⟩
  | .local _ .vmem, ⟨5, _⟩ => ⟨S128x16384, .f32⟩
  | .local _ .vmem, ⟨6, _⟩ => ⟨S128x16384, .f32⟩
  | .local _ .vmem, ⟨7, _⟩ => ⟨S128x16384, .f32⟩
  | .local _ .vmem, ⟨8, _⟩ => ⟨S128x16384, .f32⟩
  | .local _ .vmem, ⟨9, _⟩ => ⟨S4x4096x512, .f32⟩
  | .local _ .vmem, ⟨10, _⟩ => ⟨S4x512, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S1x1, .f32⟩
  | .local _ .vmem, ⟨16, _⟩ => ⟨S1x1, .f32⟩
  | .local _ .vmem, ⟨17, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_cst_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S2048x2048 : Shape := ⟨2, ![2048, 2048]⟩
abbrev S4x4096x512 : Shape := ⟨3, ![4, 4096, 512]⟩
abbrev S4x4096 : Shape := ⟨2, ![4, 4096]⟩
abbrev S4x512 : Shape := ⟨2, ![4, 512]⟩
abbrev S2048x512 : Shape := ⟨2, ![2048, 512]⟩
abbrev S1x512 : Shape := ⟨2, ![1, 512]⟩
abbrev S512 : Shape := ⟨1, ![512]⟩
abbrev S1x4096x512 : Shape := ⟨3, ![1, 4096, 512]⟩
abbrev S4096x512 : Shape := ⟨2, ![4096, 512]⟩
abbrev S512x4096 : Shape := ⟨2, ![512, 4096]⟩
abbrev S2048x4096 : Shape := ⟨2, ![2048, 4096]⟩
abbrev S1x4096 : Shape := ⟨2, ![1, 4096]⟩
abbrev S4096 : Shape := ⟨1, ![4096]⟩
abbrev S_ : Shape := ⟨0, ![]⟩
abbrev S2048x16384 : Shape := ⟨2, ![2048, 16384]⟩
abbrev S2048x128 : Shape := ⟨2, ![2048, 128]⟩
abbrev S2048 : Shape := ⟨1, ![2048]⟩
abbrev S2048x1 : Shape := ⟨2, ![2048, 1]⟩
abbrev S2048x128x1 : Shape := ⟨3, ![2048, 128, 1]⟩
abbrev S2048x128x2 : Shape := ⟨3, ![2048, 128, 2]⟩
abbrev S4096x2048 : Shape := ⟨2, ![4096, 2048]⟩
abbrev S16384x2048 : Shape := ⟨2, ![16384, 2048]⟩
abbrev S1x2048 : Shape := ⟨2, ![1, 2048]⟩

abbrev nBuf : Space → Nat
  | .hbm => 151
  | .vmem => 0
  | .smem => 0
  | _ => 0

abbrev hbmTy0_0 (i : Nat) : BufTy := match i % 128 with
  | 0 => ⟨S2048x2048, .f32⟩
  | 1 => ⟨S4x4096x512, .f32⟩
  | 2 => ⟨S4x4096, .f32⟩
  | 3 => ⟨S4x4096x512, .f32⟩
  | 4 => ⟨S4x512, .f32⟩
  | 5 => ⟨S2048x512, .f32⟩
  | 6 => ⟨S1x512, .f32⟩
  | 7 => ⟨S512, .f32⟩
  | 8 => ⟨S1x512, .f32⟩
  | 9 => ⟨S2048x512, .f32⟩
  | 10 => ⟨S2048x512, .f32⟩
  | 11 => ⟨S1x4096x512, .f32⟩
  | 12 => ⟨S4096x512, .f32⟩
  | 13 => ⟨S512x4096, .f32⟩
  | 14 => ⟨S2048x4096, .f32⟩
  | 15 => ⟨S1x4096, .f32⟩
  | 16 => ⟨S4096, .f32⟩
  | 17 => ⟨S1x4096, .f32⟩
  | 18 => ⟨S2048x4096, .f32⟩
  | 19 => ⟨S2048x4096, .f32⟩
  | 20 => ⟨S_, .f32⟩
  | 21 => ⟨S2048x4096, .f32⟩
  | 22 => ⟨S2048x4096, .f32⟩
  | 23 => ⟨S2048x512, .f32⟩
  | 24 => ⟨S1x512, .f32⟩
  | 25 => ⟨S512, .f32⟩
  | 26 => ⟨S1x512, .f32⟩
  | 27 => ⟨S2048x512, .f32⟩
  | 28 => ⟨S2048x512, .f32⟩
  | 29 => ⟨S1x4096x512, .f32⟩
  | 30 => ⟨S4096x512, .f32⟩
  | 31 => ⟨S512x4096, .f32⟩
  | 32 => ⟨S2048x4096, .f32⟩
  | 33 => ⟨S1x4096, .f32⟩
  | 34 => ⟨S4096, .f32⟩
  | 35 => ⟨S1x4096, .f32⟩
  | 36 => ⟨S2048x4096, .f32⟩
  | 37 => ⟨S2048x4096, .f32⟩
  | 38 => ⟨S_, .f32⟩
  | 39 => ⟨S2048x4096, .f32⟩
  | 40 => ⟨S2048x4096, .f32⟩
  | 41 => ⟨S2048x512, .f32⟩
  | 42 => ⟨S1x512, .f32⟩
  | 43 => ⟨S512, .f32⟩
  | 44 => ⟨S1x512, .f32⟩
  | 45 => ⟨S2048x512, .f32⟩
  | 46 => ⟨S2048x512, .f32⟩
  | 47 => ⟨S1x4096x512, .f32⟩
  | 48 => ⟨S4096x512, .f32⟩
  | 49 => ⟨S512x4096, .f32⟩
  | 50 => ⟨S2048x4096, .f32⟩
  | 51 => ⟨S1x4096, .f32⟩
  | 52 => ⟨S4096, .f32⟩
  | 53 => ⟨S1x4096, .f32⟩
  | 54 => ⟨S2048x4096, .f32⟩
  | 55 => ⟨S2048x4096, .f32⟩
  | 56 => ⟨S_, .f32⟩
  | 57 => ⟨S2048x4096, .f32⟩
  | 58 => ⟨S2048x4096, .f32⟩
  | 59 => ⟨S2048x512, .f32⟩
  | 60 => ⟨S1x512, .f32⟩
  | 61 => ⟨S512, .f32⟩
  | 62 => ⟨S1x512, .f32⟩
  | 63 => ⟨S2048x512, .f32⟩
  | 64 => ⟨S2048x512, .f32⟩
  | 65 => ⟨S1x4096x512, .f32⟩
  | 66 => ⟨S4096x512, .f32⟩
  | 67 => ⟨S512x4096, .f32⟩
  | 68 => ⟨S2048x4096, .f32⟩
  | 69 => ⟨S1x4096, .f32⟩
  | 70 => ⟨S4096, .f32⟩
  | 71 => ⟨S1x4096, .f32⟩
  | 72 => ⟨S2048x4096, .f32⟩
  | 73 => ⟨S2048x4096, .f32⟩
  | 74 => ⟨S_, .f32⟩
  | 75 => ⟨S2048x4096, .f32⟩
  | 76 => ⟨S2048x4096, .f32⟩
  | 77 => ⟨S2048x16384, .f32⟩
  | 78 => ⟨S2048x128, .f32⟩
  | 79 => ⟨S2048x128, .i32⟩
  | 80 => ⟨S2048, .i32⟩
  | 81 => ⟨S2048x1, .i32⟩
  | 82 => ⟨S_, .f32⟩
  | 83 => ⟨S2048x16384, .f32⟩
  | 84 => ⟨S_, .i32⟩
  | 85 => ⟨S2048x1, .i32⟩
  | 86 => ⟨S2048x1, .i1⟩
  | 87 => ⟨S_, .i32⟩
  | 88 => ⟨S2048x1, .i32⟩
  | 89 => ⟨S2048x1, .i32⟩
  | 90 => ⟨S2048x1, .i32⟩
  | 91 => ⟨S_, .i32⟩
  | 92 => ⟨S2048x128, .i32⟩
  | 93 => ⟨S2048x128, .i1⟩
  | 94 => ⟨S_, .i32⟩
  | 95 => ⟨S2048x128, .i32⟩
  | 96 => ⟨S2048x128, .i32⟩
  | 97 => ⟨S2048x128, .i32⟩
  | 98 => ⟨S2048x128, .i32⟩
  | 99 => ⟨S2048x128x1, .i32⟩
  | 100 => ⟨S2048x128x1, .i32⟩
  | 101 => ⟨S2048x128x2, .i32⟩
  | 102 => ⟨S2048x16384, .f32⟩
  | 103 => ⟨S1x4096x512, .f32⟩
  | 104 => ⟨S4096x512, .f32⟩
  | 105 => ⟨S1x4096x512, .f32⟩
  | 106 => ⟨S4096x512, .f32⟩
  | 107 => ⟨S1x4096x512, .f32⟩
  | 108 => ⟨S4096x512, .f32⟩
  | 109 => ⟨S1x4096x512, .f32⟩
  | 110 => ⟨S4096x512, .f32⟩
  | 111 => ⟨S_, .f32⟩
  | 112 => ⟨S4096x2048, .f32⟩
  | 113 => ⟨S_, .f32⟩
  | 114 => ⟨S4096x2048, .f32⟩
  | 115 => ⟨S_, .f32⟩
  | 116 => ⟨S4096x2048, .f32⟩
  | 117 => ⟨S_, .f32⟩
  | 118 => ⟨S4096x2048, .f32⟩
  | 119 => ⟨S16384x2048, .f32⟩
  | 120 => ⟨S1x512, .f32⟩
  | 121 => ⟨S512, .f32⟩
  | 122 => ⟨S1x512, .f32⟩
  | 123 => ⟨S512, .f32⟩
  | 124 => ⟨S1x512, .f32⟩
  | 125 => ⟨S512, .f32⟩
  | 126 => ⟨S1x512, .f32⟩
  | 127 => ⟨S512, .f32⟩
  | _ => ⟨S2048x2048, .f32⟩

abbrev hbmTy0_1 (i : Nat) : BufTy := match i % 128 with
  | 0 => ⟨S2048, .f32⟩
  | 1 => ⟨S2048x2048, .f32⟩
  | 2 => ⟨S1x2048, .f32⟩
  | 3 => ⟨S2048x2048, .f32⟩
  | 4 => ⟨S2048x2048, .f32⟩
  | 5 => ⟨S2048x2048, .f32⟩
  | 6 => ⟨S_, .f32⟩
  | 7 => ⟨S2048, .f32⟩
  | 8 => ⟨S_, .f32⟩
  | 9 => ⟨S2048, .f32⟩
  | 10 => ⟨S2048, .f32⟩
  | 11 => ⟨S1x2048, .f32⟩
  | 12 => ⟨S2048x2048, .f32⟩
  | 13 => ⟨S2048x2048, .f32⟩
  | 14 => ⟨S2048x2048, .f32⟩
  | 15 => ⟨S_, .f32⟩
  | 16 => ⟨S_, .f32⟩
  | 17 => ⟨S2048x2048, .f32⟩
  | 18 => ⟨S_, .f32⟩
  | 19 => ⟨S_, .f32⟩
  | 20 => ⟨S_, .f32⟩
  | 21 => ⟨S_, .f32⟩
  | 22 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call1_cst : Ref sig .tc := ⟨.hbm, 38, rfl⟩
abbrev main_call1_v0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_call2_cst : Ref sig .tc := ⟨.hbm, 56, rfl⟩
abbrev main_call2_v0 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_call3_cst : Ref sig .tc := ⟨.hbm, 74, rfl⟩
abbrev main_call3_v0 : Ref sig .tc := ⟨.hbm, 75, rfl⟩
abbrev main_v63 : Ref sig .tc := ⟨.hbm, 76, rfl⟩
abbrev main_v64 : Ref sig .tc := ⟨.hbm, 77, rfl⟩
abbrev main_values : Ref sig .tc := ⟨.hbm, 78, rfl⟩
abbrev main_indices : Ref sig .tc := ⟨.hbm, 79, rfl⟩
abbrev main_v65 : Ref sig .tc := ⟨.hbm, 80, rfl⟩
abbrev main_v66 : Ref sig .tc := ⟨.hbm, 81, rfl⟩
abbrev main_cst : Ref sig .tc := ⟨.hbm, 82, rfl⟩
abbrev main_v67 : Ref sig .tc := ⟨.hbm, 83, rfl⟩
abbrev main_c : Ref sig .tc := ⟨.hbm, 84, rfl⟩
abbrev main_v68 : Ref sig .tc := ⟨.hbm, 85, rfl⟩
abbrev main_v69 : Ref sig .tc := ⟨.hbm, 86, rfl⟩
abbrev main_c_0 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_1 : Ref sig .tc := ⟨.hbm, 91, rfl⟩
abbrev main_v73 : Ref sig .tc := ⟨.hbm, 92, rfl⟩
abbrev main_v74 : Ref sig .tc := ⟨.hbm, 93, rfl⟩
abbrev main_c_2 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_call4_cst : Ref sig .tc := ⟨.hbm, 111, rfl⟩
abbrev main_call4_v4 : Ref sig .tc := ⟨.hbm, 112, rfl⟩
abbrev main_call4_cst_0 : Ref sig .tc := ⟨.hbm, 113, rfl⟩
abbrev main_call4_v5 : Ref sig .tc := ⟨.hbm, 114, rfl⟩
abbrev main_call4_cst_1 : Ref sig .tc := ⟨.hbm, 115, rfl⟩
abbrev main_call4_v6 : Ref sig .tc := ⟨.hbm, 116, rfl⟩
abbrev main_call4_cst_2 : Ref sig .tc := ⟨.hbm, 117, rfl⟩
abbrev main_call4_v7 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_3 : Ref sig .tc := ⟨.hbm, 134, rfl⟩
abbrev main_v106 : Ref sig .tc := ⟨.hbm, 135, rfl⟩
abbrev main_cst_4 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_5 : Ref sig .tc := ⟨.hbm, 143, rfl⟩
abbrev main_v113 : Ref sig .tc := ⟨.hbm, 144, rfl⟩
abbrev main_v114 : Ref sig .tc := ⟨.hbm, 145, rfl⟩
abbrev main_cst_6 : Ref sig .tc := ⟨.hbm, 146, rfl⟩
abbrev main_v115 : Ref sig .tc := ⟨.hbm, 147, rfl⟩
abbrev main_v116 : Ref sig .tc := ⟨.hbm, 148, rfl⟩
abbrev main_cst_7 : Ref sig .tc := ⟨.hbm, 149, rfl⟩
abbrev main_cst_8 : Ref sig .tc := ⟨.hbm, 150, rfl⟩

abbrev nD : Nat := 1
abbrev τ : Topo := Topo.v7x

variable {F : FTy → Type} [FloatOps F]
-- ==== Proof.KernelRun.lean ====
/-
  The kernel's run: every unscoped array ends at the contents that the fold over @main's segments gives it. The launch
  follows the generated frame's; its conclusion is about all the arrays, not only the arguments.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with each unscoped array at the last boundary's contents. -/
theorem run : θ_run defs (onTc (τ := τ) (main (F := F))) ⟨m, fun _ => 0, ρ⟩ fun r =>
    ∀ (c : Dev nD) (b : Ref sig .tc), ¬ (Proc.devRef .tc b : DevRef τ sig).isScoped →
      r.2.mem ((c.tc : Thread nD τ).loc b) = W5 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c b hb => h c _ (mem_uc b hb))

end Cert.KernelIdeal.Hand

end
-- ==== Proof.RefOps.lean ====
/-
  The reference's @main written as four stretches of host operations: the encoder, the selection of the largest
  activations, the decoder, and the fraction of variance left unexplained. Each stretch is the program's own
  operations in the program's own order; `main_eq` says that together they are the program.
-/
module

public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A float array of shape `s`. -/
abbrev Fl (F : FTy → Type) (s : Shape) : Type := (⟨s, .f32⟩ : BufTy).Contents (Elt F)
/-- An array of index words of shape `s`. -/
abbrev Ix (F : FTy → Type) (s : Shape) : Type := (⟨s, .i32⟩ : BufTy).Contents (Elt F)

/-- The four tiles' activations side by side. -/
def catPre (a b c d : Fl F S2048x4096) : Fl F S2048x16384 :=
  concatenate S2048x16384 1 [⟨S2048x4096, a⟩, ⟨S2048x4096, b⟩, ⟨S2048x4096, c⟩, ⟨S2048x4096, d⟩]
    concatenates_S2048x4096_S2048x4096_S2048x4096_S2048x4096_S2048x16384_d1

/-- Row numbers and column numbers as pairs. -/
def pairIdx (a b : Ix F S2048x128x1) : Ix F S2048x128x2 :=
  concatenate S2048x128x2 2 [⟨S2048x128x1, a⟩, ⟨S2048x128x1, b⟩] concatenates_S2048x128x1_S2048x128x1_S2048x128x2_d2

/-- The four padded decoder blocks on top of one another. -/
def stackRows (a b c d : Fl F S4096x2048) : Fl F S16384x2048 :=
  concatenate S16384x2048 0 [⟨S4096x2048, a⟩, ⟨S4096x2048, b⟩, ⟨S4096x2048, c⟩, ⟨S4096x2048, d⟩]
    concatenates_S4096x2048_S4096x2048_S4096x2048_S4096x2048_S16384x2048_d0

/-- The four rows of the decoder's bias one after another. -/
def catBias (a b c d : Fl F S512) : Fl F S2048 :=
  concatenate S2048 0 [⟨S512, a⟩, ⟨S512, b⟩, ⟨S512, c⟩, ⟨S512, d⟩] concatenates_S512_S512_S512_S512_S2048_d0

/-- The encoder: the pre-activations of the four tiles. -/
abbrev opsEnc : List (HloOp τ sig (Elt F)) :=
  [ unary main_arg0 main_v0 ((extractStridedSlice S2048x512 ![0, 0] · slices_S2048x2048_S2048x512_0_0) : Fl F S2048x2048 → Fl F S2048x512),
    unary main_arg4 main_v1 ((extractStridedSlice S1x512 ![0, 0] · slices_S4x512_S1x512_0_0) : Fl F S4x512 → Fl F S1x512),
    reshape main_v1 main_v2 (rfl : (.f32 : EltTy) = .f32) shapeCasts_S1x512_S512,
    unary main_v2 main_v3 (broadcastInDim S1x512 ![1] bcast_S512_S1x512_1 : Fl F S512 → Fl F S1x512),
    unary main_v3 main_v4 (broadcastInDim S2048x512 ![0, 1] bcast_S1x512_S2048x512_0_1 : Fl F S1x512 → Fl F S2048x512),
    binary main_v0 main_v4 main_v5 (subf : Fl F S2048x512 → Fl F S2048x512 → Fl F S2048x512),
    unary main_arg1 main_v6 ((extractStridedSlice S1x4096x512 ![0, 0, 0] · slices_S4x4096x512_S1x4096x512_0_0_0) : Fl F S4x4096x512 → Fl F S1x4096x512),
    reshape main_v6 main_v7 (rfl : (.f32 : EltTy) = .f32) shapeCasts_S1x4096x512_S4096x512,
    unary main_v7 main_v8 ((transpose S512x4096 [1, 0] · transposes_S4096x512_S512x4096_1_0) : Fl F S4096x512 → Fl F S512x4096),
    binary main_v5 main_v8 main_v9 ((fun l r => Host.dotGeneral dot_S2048x512_S512x4096_S2048x4096_1_0_0_1_n_n none l r) : Fl F S2048x512 → Fl F S512x4096 → Fl F S2048x4096),
    unary main_arg2 main_v10 ((extractStridedSlice S1x4096 ![0, 0] · slices_S4x4096_S1x4096_0_0) : Fl F S4x4096 → Fl F S1x4096),
    reshape main_v10 main_v11 (rfl : (.f32 : EltTy) = .f32) shapeCasts_S1x4096_S4096,
    unary main_v11 main_v12 (broadcastInDim S1x4096 ![1] bcast_S4096_S1x4096_1 : Fl F S4096 → Fl F S1x4096),
    unary main_v12 main_v13 (broadcastInDim S2048x4096 ![0, 1] bcast_S1x4096_S2048x4096_0_1 : Fl F S1x4096 → Fl F S2048x4096),
    binary main_v9 main_v13 main_v14 (addf : Fl F S2048x4096 → Fl F S2048x4096 → Fl F S2048x4096),
    nullary main_call0_cst (constant S_ .f32 0x00000000#32),
    unary main_call0_cst main_call0_v0 (broadcastInDim S2048x4096 ![] bcast_S_S2048x4096),
    binary main_v14 main_call0_v0 main_v15 maximumf,
    unary main_arg0 main_v16 ((extractStridedSlice S2048x512 ![0, 512] · slices_S2048x2048_S2048x512_0_512) : Fl F S2048x2048 → Fl F S2048x512),
    unary main_arg4 main_v17 ((extractStridedSlice S1x512 ![1, 0] · slices_S4x512_S1x512_1_0) : Fl F S4x512 → Fl F S1x512),
    reshape main_v17 main_v18 (rfl : (.f32 : EltTy) = .f32) shapeCasts_S1x512_S512,
    unary main_v18 main_v19 (broadcastInDim S1x512 ![1] bcast_S512_S1x512_1 : Fl F S512 → Fl F S1x512),
    unary main_v19 main_v20 (broadcastInDim S2048x512 ![0, 1] bcast_S1x512_S2048x512_0_1 : Fl F S1x512 → Fl F S2048x512),
    binary main_v16 main_v20 main_v21 (subf : Fl F S2048x512 → Fl F S2048x512 → Fl F S2048x512),
    unary main_arg1 main_v22 ((extractStridedSlice S1x4096x512 ![1, 0, 0] · slices_S4x4096x512_S1x4096x512_1_0_0) : Fl F S4x4096x512 → Fl F S1x4096x512),
    reshape main_v22 main_v23 (rfl : (.f32 : EltTy) = .f32) shapeCasts_S1x4096x512_S4096x512,
    unary main_v23 main_v24 ((transpose S512x4096 [1, 0] · transposes_S4096x512_S512x4096_1_0) : Fl F S4096x512 → Fl F S512x4096),
    binary main_v21 main_v24 main_v25 ((fun l r => Host.dotGeneral dot_S2048x512_S512x4096_S2048x4096_1_0_0_1_n_n none l r) : Fl F S2048x512 → Fl F S512x4096 → Fl F S2048x4096),
    unary main_arg2 main_v26 ((extractStridedSlice S1x4096 ![1, 0] · slices_S4x4096_S1x4096_1_0) : Fl F S4x4096 → Fl F S1x4096),
    reshape main_v26 main_v27 (rfl : (.f32 : EltTy) = .f32) shapeCasts_S1x4096_S4096,
    unary main_v27 main_v28 (broadcastInDim S1x4096 ![1] bcast_S4096_S1x4096_1 : Fl F S4096 → Fl F S1x4096),
    unary main_v28 main_v29 (broadcastInDim S2048x4096 ![0, 1] bcast_S1x4096_S2048x4096_0_1 : Fl F S1x4096 → Fl F S2048x4096),
    binary main_v25 main_v29 main_v30 (addf : Fl F S2048x4096 → Fl F S2048x4096 → Fl F S2048x4096),
    nullary main_call1_cst (constant S_ .f32 0x00000000#32),
    unary main_call1_cst main_call1_v0 (broadcastInDim S2048x4096 ![] bcast_S_S2048x4096),
    binary main_v30 main_call1_v0 main_v31 maximumf,
    unary main_arg0 main_v32 ((extractStridedSlice S2048x512 ![0, 1024] · slices_S2048x2048_S2048x512_0_1024) : Fl F S2048x2048 → Fl F S2048x512),
    unary main_arg4 main_v33 ((extractStridedSlice S1x512 ![2, 0] · slices_S4x512_S1x512_2_0) : Fl F S4x512 → Fl F S1x512),
    reshape main_v33 main_v34 (rfl : (.f32 : EltTy) = .f32) shapeCasts_S1x512_S512,
    unary main_v34 main_v35 (broadcastInDim S1x512 ![1] bcast_S512_S1x512_1 : Fl F S512 → Fl F S1x512),
    unary main_v35 main_v36 (broadcastInDim S2048x512 ![0, 1] bcast_S1x512_S2048x512_0_1 : Fl F S1x512 → Fl F S2048x512),
    binary main_v32 main_v36 main_v37 (subf : Fl F S2048x512 → Fl F S2048x512 → Fl F S2048x512),
    unary main_arg1 main_v38 ((extractStridedSlice S1x4096x512 ![2, 0, 0] · slices_S4x4096x512_S1x4096x512_2_0_0) : Fl F S4x4096x512 → Fl F S1x4096x512),
    reshape main_v38 main_v39 (rfl : (.f32 : EltTy) = .f32) shapeCasts_S1x4096x512_S4096x512,
    unary main_v39 main_v40 ((transpose S512x4096 [1, 0] · transposes_S4096x512_S512x4096_1_0) : Fl F S4096x512 → Fl F S512x4096),
    binary main_v37 main_v40 main_v41 ((fun l r => Host.dotGeneral dot_S2048x512_S512x4096_S2048x4096_1_0_0_1_n_n none l r) : Fl F S2048x512 → Fl F S512x4096 → Fl F S2048x4096),
    unary main_arg2 main_v42 ((extractStridedSlice S1x4096 ![2, 0] · slices_S4x4096_S1x4096_2_0) : Fl F S4x4096 → Fl F S1x4096),
    reshape main_v42 main_v43 (rfl : (.f32 : EltTy) = .f32) shapeCasts_S1x4096_S4096,
    unary main_v43 main_v44 (broadcastInDim S1x4096 ![1] bcast_S4096_S1x4096_1 : Fl F S4096 → Fl F S1x4096),
    unary main_v44 main_v45 (broadcastInDim S2048x4096 ![0, 1] bcast_S1x4096_S2048x4096_0_1 : Fl F S1x4096 → Fl F S2048x4096),
    binary main_v41 main_v45 main_v46 (addf : Fl F S2048x4096 → Fl F S2048x4096 → Fl F S2048x4096),
    nullary main_call2_cst (constant S_ .f32 0x00000000#32),
    unary main_call2_cst main_call2_v0 (broadcastInDim S2048x4096 ![] bcast_S_S2048x4096),
    binary main_v46 main_call2_v0 main_v47 maximumf,
    unary main_arg0 main_v48 ((extractStridedSlice S2048x512 ![0, 1536] · slices_S2048x2048_S2048x512_0_1536) : Fl F S2048x2048 → Fl F S2048x512),
    unary main_arg4 main_v49 ((extractStridedSlice S1x512 ![3, 0] · slices_S4x512_S1x512_3_0) : Fl F S4x512 → Fl F S1x512),
    reshape main_v49 main_v50 (rfl : (.f32 : EltTy) = .f32) shapeCasts_S1x512_S512,
    unary main_v50 main_v51 (broadcastInDim S1x512 ![1] bcast_S512_S1x512_1 : Fl F S512 → Fl F S1x512),
    unary main_v51 main_v52 (broadcastInDim S2048x512 ![0, 1] bcast_S1x512_S2048x512_0_1 : Fl F S1x512 → Fl F S2048x512),
    binary main_v48 main_v52 main_v53 (subf : Fl F S2048x512 → Fl F S2048x512 → Fl F S2048x512),
    unary main_arg1 main_v54 ((extractStridedSlice S1x4096x512 ![3, 0, 0] · slices_S4x4096x512_S1x4096x512_3_0_0) : Fl F S4x4096x512 → Fl F S1x4096x512),
    reshape main_v54 main_v55 (rfl : (.f32 : EltTy) = .f32) shapeCasts_S1x4096x512_S4096x512,
    unary main_v55 main_v56 ((transpose S512x4096 [1, 0] · transposes_S4096x512_S512x4096_1_0) : Fl F S4096x512 → Fl F S512x4096),
    binary main_v53 main_v56 main_v57 ((fun l r => Host.dotGeneral dot_S2048x512_S512x4096_S2048x4096_1_0_0_1_n_n none l r) : Fl F S2048x512 → Fl F S512x4096 → Fl F S2048x4096),
    unary main_arg2 main_v58 ((extractStridedSlice S1x4096 ![3, 0] · slices_S4x4096_S1x4096_3_0) : Fl F S4x4096 → Fl F S1x4096),
    reshape main_v58 main_v59 (rfl : (.f32 : EltTy) = .f32) shapeCasts_S1x4096_S4096,
    unary main_v59 main_v60 (broadcastInDim S1x4096 ![1] bcast_S4096_S1x4096_1 : Fl F S4096 → Fl F S1x4096),
    unary main_v60 main_v61 (broadcastInDim S2048x4096 ![0, 1] bcast_S1x4096_S2048x4096_0_1 : Fl F S1x4096 → Fl F S2048x4096),
    binary main_v57 main_v61 main_v62 (addf : Fl F S2048x4096 → Fl F S2048x4096 → Fl F S2048x4096),
    nullary main_call3_cst (constant S_ .f32 0x00000000#32),
    unary main_call3_cst main_call3_v0 (broadcastInDim S2048x4096 ![] bcast_S_S2048x4096),
    binary main_v62 main_call3_v0 main_v63 maximumf,
    nary ![main_v15, main_v31, main_v47, main_v63] main_v64 (fun u => catPre (u 0 : Fl F S2048x4096) (u 1 : Fl F S2048x4096) (u 2 : Fl F S2048x4096) (u 3 : Fl F S2048x4096)) ]
/-- The references the encoder writes, in order. -/
abbrev encW : List (Ref sig .tc) :=
  [main_v0, main_v1, main_v2, main_v3, main_v4, main_v5, main_v6, main_v7, main_v8, main_v9, main_v10, main_v11, main_v12,
   main_v13, main_v14, main_call0_cst, main_call0_v0, main_v15, main_v16, main_v17, main_v18, main_v19, main_v20,
   main_v21, main_v22, main_v23, main_v24, main_v25, main_v26, main_v27, main_v28, main_v29, main_v30, main_call1_cst,
   main_call1_v0, main_v31, main_v32, main_v33, main_v34, main_v35, main_v36, main_v37, main_v38, main_v39, main_v40,
   main_v41, main_v42, main_v43, main_v44, main_v45, main_v46, main_call2_cst, main_call2_v0, main_v47, main_v48,
   main_v49, main_v50, main_v51, main_v52, main_v53, main_v54, main_v55, main_v56, main_v57, main_v58, main_v59,
   main_v60, main_v61, main_v62, main_call3_cst, main_call3_v0, main_v63, main_v64]

/-- The selection: the largest activations of every row, where they stand, and the array that holds only them. -/
abbrev opsTop : List (HloOp τ sig (Elt F)) :=
  [ unary main_v64 main_values ((fun x => (Host.topK S2048x128 1 (FloatOps.cmpfTotal .gt) x sliceFits_S2048x16384_S2048x128).1) : Fl F S2048x16384 → Fl F S2048x128),
    unary main_v64 main_indices ((fun x => (Host.topK S2048x128 1 (FloatOps.cmpfTotal .gt) x sliceFits_S2048x16384_S2048x128).2) : Fl F S2048x16384 → Ix F S2048x128),
    nullary main_v65 (iotaInDim S2048 32 0),
    unary main_v65 main_v66 (broadcastInDim S2048x1 ![0] bcast_S2048_S2048x1_0 : Ix F S2048 → Ix F S2048x1),
    nullary main_cst (constant S_ .f32 0x00000000#32),
    unary main_cst main_v67 (broadcastInDim S2048x16384 ![] bcast_S_S2048x16384 : Fl F S_ → Fl F S2048x16384),
    nullary main_c (constantI S_ 32 0#32),
    unary main_c main_v68 (broadcastInDim S2048x1 ![] bcast_S_S2048x1 : Ix F S_ → Ix F S2048x1),
    binary main_v66 main_v68 main_v69 (cmpi .slt : Ix F S2048x1 → Ix F S2048x1 → (⟨S2048x1, .i1⟩ : BufTy).Contents (Elt F)),
    nullary main_c_0 (constantI S_ 32 2048#32),
    unary main_c_0 main_v70 (broadcastInDim S2048x1 ![] bcast_S_S2048x1 : Ix F S_ → Ix F S2048x1),
    binary main_v66 main_v70 main_v71 (addi : Ix F S2048x1 → Ix F S2048x1 → Ix F S2048x1),
    ternary main_v69 main_v71 main_v66 main_v72 (select : (⟨S2048x1, .i1⟩ : BufTy).Contents (Elt F) → Ix F S2048x1 → Ix F S2048x1 → Ix F S2048x1),
    nullary main_c_1 (constantI S_ 32 0#32),
    unary main_c_1 main_v73 (broadcastInDim S2048x128 ![] bcast_S_S2048x128 : Ix F S_ → Ix F S2048x128),
    binary main_indices main_v73 main_v74 (cmpi .slt : Ix F S2048x128 → Ix F S2048x128 → (⟨S2048x128, .i1⟩ : BufTy).Contents (Elt F)),
    nullary main_c_2 (constantI S_ 32 16384#32),
    unary main_c_2 main_v75 (broadcastInDim S2048x128 ![] bcast_S_S2048x128 : Ix F S_ → Ix F S2048x128),
    binary main_indices main_v75 main_v76 (addi : Ix F S2048x128 → Ix F S2048x128 → Ix F S2048x128),
    ternary main_v74 main_v76 main_indices main_v77 (select : (⟨S2048x128, .i1⟩ : BufTy).Contents (Elt F) → Ix F S2048x128 → Ix F S2048x128 → Ix F S2048x128),
    unary main_v72 main_v78 (broadcastInDim S2048x128 ![0, 1] bcast_S2048x1_S2048x128_0_1 : Ix F S2048x1 → Ix F S2048x128),
    unary main_v78 main_v79 (broadcastInDim S2048x128x1 ![0, 1] bcast_S2048x128_S2048x128x1_0_1 : Ix F S2048x128 → Ix F S2048x128x1),
    unary main_v77 main_v80 (broadcastInDim S2048x128x1 ![0, 1] bcast_S2048x128_S2048x128x1_0_1 : Ix F S2048x128 → Ix F S2048x128x1),
    binary main_v79 main_v80 main_v81 pairIdx,
    ternary main_v67 main_v81 main_values main_v82 ((fun x i u => Host.scatter scatter_S2048x16384_S2048x128x2_S2048x128_n_01_01_2 (fun _ b => b) x i u) : Fl F S2048x16384 → Ix F S2048x128x2 → Fl F S2048x128 → Fl F S2048x16384) ]
/-- The references the selection writes, in order. -/
abbrev topW : List (Ref sig .tc) :=
  [main_values, main_indices, main_v65, main_v66, main_cst, main_v67, main_c, main_v68, main_v69, main_c_0, main_v70,
   main_v71, main_v72, main_c_1, main_v73, main_v74, main_c_2, main_v75, main_v76, main_v77, main_v78, main_v79,
   main_v80, main_v81, main_v82]

/-- The decoder: the block-diagonal matrix, the product with it, the bias. -/
abbrev opsDec : List (HloOp τ sig (Elt F)) :=
  [ unary main_arg3 main_v83 ((extractStridedSlice S1x4096x512 ![0, 0, 0] · slices_S4x4096x512_S1x4096x512_0_0_0) : Fl F S4x4096x512 → Fl F S1x4096x512),
    reshape main_v83 main_v84 (rfl : (.f32 : EltTy) = .f32) shapeCasts_S1x4096x512_S4096x512,
    unary main_arg3 main_v85 ((extractStridedSlice S1x4096x512 ![1, 0, 0] · slices_S4x4096x512_S1x4096x512_1_0_0) : Fl F S4x4096x512 → Fl F S1x4096x512),
    reshape main_v85 main_v86 (rfl : (.f32 : EltTy) = .f32) shapeCasts_S1x4096x512_S4096x512,
    unary main_arg3 main_v87 ((extractStridedSlice S1x4096x512 ![2, 0, 0] · slices_S4x4096x512_S1x4096x512_2_0_0) : Fl F S4x4096x512 → Fl F S1x4096x512),
    reshape main_v87 main_v88 (rfl : (.f32 : EltTy) = .f32) shapeCasts_S1x4096x512_S4096x512,
    unary main_arg3 main_v89 ((extractStridedSlice S1x4096x512 ![3, 0, 0] · slices_S4x4096x512_S1x4096x512_3_0_0) : Fl F S4x4096x512 → Fl F S1x4096x512),
    reshape main_v89 main_v90 (rfl : (.f32 : EltTy) = .f32) shapeCasts_S1x4096x512_S4096x512,
    nullary main_call4_cst (constant S_ .f32 0x00000000#32),
    binary main_v84 main_call4_cst main_call4_v4 (fun x v => pad S4096x2048 ![0, 0] ![0, 1536] ![0, 0] x v pads_S4096x512_S4096x2048_000_015360 h_S_),
    nullary main_call4_cst_0 (constant S_ .f32 0x00000000#32),
    binary main_v86 main_call4_cst_0 main_call4_v5 (fun x v => pad S4096x2048 ![0, 512] ![0, 1024] ![0, 0] x v pads_S4096x512_S4096x2048_000_51210240 h_S_),
    nullary main_call4_cst_1 (constant S_ .f32 0x00000000#32),
    binary main_v88 main_call4_cst_1 main_call4_v6 (fun x v => pad S4096x2048 ![0, 1024] ![0, 512] ![0, 0] x v pads_S4096x512_S4096x2048_000_10245120 h_S_),
    nullary main_call4_cst_2 (constant S_ .f32 0x00000000#32),
    binary main_v90 main_call4_cst_2 main_call4_v7 (fun x v => pad S4096x2048 ![0, 1536] ![0, 0] ![0, 0] x v pads_S4096x512_S4096x2048_000_153600 h_S_),
    nary ![main_call4_v4, main_call4_v5, main_call4_v6, main_call4_v7] main_v91 (fun u => stackRows (u 0 : Fl F S4096x2048) (u 1 : Fl F S4096x2048) (u 2 : Fl F S4096x2048) (u 3 : Fl F S4096x2048)),
    unary main_arg4 main_v92 ((extractStridedSlice S1x512 ![0, 0] · slices_S4x512_S1x512_0_0) : Fl F S4x512 → Fl F S1x512),
    reshape main_v92 main_v93 (rfl : (.f32 : EltTy) = .f32) shapeCasts_S1x512_S512,
    unary main_arg4 main_v94 ((extractStridedSlice S1x512 ![1, 0] · slices_S4x512_S1x512_1_0) : Fl F S4x512 → Fl F S1x512),
    reshape main_v94 main_v95 (rfl : (.f32 : EltTy) = .f32) shapeCasts_S1x512_S512,
    unary main_arg4 main_v96 ((extractStridedSlice S1x512 ![2, 0] · slices_S4x512_S1x512_2_0) : Fl F S4x512 → Fl F S1x512),
    reshape main_v96 main_v97 (rfl : (.f32 : EltTy) = .f32) shapeCasts_S1x512_S512,
    unary main_arg4 main_v98 ((extractStridedSlice S1x512 ![3, 0] · slices_S4x512_S1x512_3_0) : Fl F S4x512 → Fl F S1x512),
    reshape main_v98 main_v99 (rfl : (.f32 : EltTy) = .f32) shapeCasts_S1x512_S512,
    nary ![main_v93, main_v95, main_v97, main_v99] main_v100 (fun u => catBias (u 0 : Fl F S512) (u 1 : Fl F S512) (u 2 : Fl F S512) (u 3 : Fl F S512)),
    binary main_v82 main_v91 main_v101 ((fun l r => Host.dotGeneral dot_S2048x16384_S16384x2048_S2048x2048_1_0_0_1_n_n none l r) : Fl F S2048x16384 → Fl F S16384x2048 → Fl F S2048x2048),
    unary main_v100 main_v102 (broadcastInDim S1x2048 ![1] bcast_S2048_S1x2048_1 : Fl F S2048 → Fl F S1x2048),
    unary main_v102 main_v103 (broadcastInDim S2048x2048 ![0, 1] bcast_S1x2048_S2048x2048_0_1 : Fl F S1x2048 → Fl F S2048x2048),
    binary main_v101 main_v103 main_v104 (addf : Fl F S2048x2048 → Fl F S2048x2048 → Fl F S2048x2048) ]
/-- The references the decoder writes, in order. -/
abbrev decW : List (Ref sig .tc) :=
  [main_v83, main_v84, main_v85, main_v86, main_v87, main_v88, main_v89, main_v90, main_call4_cst, main_call4_v4,
   main_call4_cst_0, main_call4_v5, main_call4_cst_1, main_call4_v6, main_call4_cst_2, main_call4_v7, main_v91,
   main_v92, main_v93, main_v94, main_v95, main_v96, main_v97, main_v98, main_v99, main_v100, main_v101, main_v102,
   main_v103, main_v104]

/-- The fraction of variance left unexplained, and the two zero losses. -/
abbrev opsFvu : List (HloOp τ sig (Elt F)) :=
  [ binary main_arg0 main_v104 main_v105 (subf : Fl F S2048x2048 → Fl F S2048x2048 → Fl F S2048x2048),
    nullary main_cst_3 (constant S_ .f32 0x00000000#32),
    binary main_arg0 main_cst_3 main_v106 ((fun x v => Host.reduceAdd x v reducesTo_S2048x2048_S2048_d0 h_S_) : Fl F S2048x2048 → Fl F S_ → Fl F S2048),
    nullary main_cst_4 (constant S_ .f32 0x45000000#32),
    unary main_cst_4 main_v107 (broadcastInDim S2048 ![] bcast_S_S2048 : Fl F S_ → Fl F S2048),
    binary main_v106 main_v107 main_v108 (Host.divf : Fl F S2048 → Fl F S2048 → Fl F S2048),
    unary main_v108 main_v109 (broadcastInDim S1x2048 ![1] bcast_S2048_S1x2048_1 : Fl F S2048 → Fl F S1x2048),
    unary main_v109 main_v110 (broadcastInDim S2048x2048 ![0, 1] bcast_S1x2048_S2048x2048_0_1 : Fl F S1x2048 → Fl F S2048x2048),
    binary main_arg0 main_v110 main_v111 (subf : Fl F S2048x2048 → Fl F S2048x2048 → Fl F S2048x2048),
    binary main_v111 main_v111 main_v112 (mulf : Fl F S2048x2048 → Fl F S2048x2048 → Fl F S2048x2048),
    nullary main_cst_5 (constant S_ .f32 0x00000000#32),
    binary main_v112 main_cst_5 main_v113 ((fun x v => Host.reduceAdd x v reducesTo_S2048x2048_S_d0_1 h_S_) : Fl F S2048x2048 → Fl F S_ → Fl F S_),
    binary main_v105 main_v105 main_v114 (mulf : Fl F S2048x2048 → Fl F S2048x2048 → Fl F S2048x2048),
    nullary main_cst_6 (constant S_ .f32 0x00000000#32),
    binary main_v114 main_cst_6 main_v115 ((fun x v => Host.reduceAdd x v reducesTo_S2048x2048_S_d0_1 h_S_) : Fl F S2048x2048 → Fl F S_ → Fl F S_),
    binary main_v115 main_v113 main_v116 (Host.divf : Fl F S_ → Fl F S_ → Fl F S_),
    nullary main_cst_7 (constant S_ .f32 0x00000000#32),
    nullary main_cst_8 (constant S_ .f32 0x00000000#32) ]
/-- The references the last stretch writes, in order. -/
abbrev fvuW : List (Ref sig .tc) :=
  [main_v105, main_cst_3, main_v106, main_cst_4, main_v107, main_v108, main_v109, main_v110, main_v111, main_v112,
   main_cst_5, main_v113, main_v114, main_cst_6, main_v115, main_v116, main_cst_7, main_cst_8]

/-- The whole program's operations. -/
abbrev ops : List (HloOp τ sig (Elt F)) := opsEnc ++ (opsTop ++ (opsDec ++ opsFvu))

set_option maxRecDepth 8192 in
set_option maxHeartbeats 4000000 in
/-- @main runs the four stretches. -/
theorem main_eq (c : Dev nD) : main (F := F) c = seq ops := rfl

set_option maxRecDepth 8192 in
/-- Every operation touches arrays of the core only. -/
theorem ops_sub : (ops : List (HloOp τ sig (Elt F))).Forall fun op => op.bufs ⊆ tcRefs τ sig := by
  simp only [ops, opsEnc, opsTop, opsDec, opsFvu, List.cons_append, List.nil_append, List.Forall, unary_bufs_sub,
    binary_bufs_sub, reshape_bufs_sub, nullary_bufs_sub, ternary_bufs_sub, nary_bufs_sub, and_self]

set_option maxRecDepth 8192 in
/-- No operation allocates. -/
theorem ops_fresh : (ops : List (HloOp τ sig (Elt F))).Forall fun op => op.fresh = ∅ :=
  forall_fresh_of_map rfl

set_option maxRecDepth 8192 in
theorem enc_writes : (opsEnc : List (HloOp τ sig (Elt F))).Forall fun op => op.writes ⊆ (encW.map (Proc.devRef (τ := τ) .tc)).toFinset :=
  forall_writes_sub_of_map rfl
theorem top_writes : (opsTop : List (HloOp τ sig (Elt F))).Forall fun op => op.writes ⊆ (topW.map (Proc.devRef (τ := τ) .tc)).toFinset :=
  forall_writes_sub_of_map rfl
theorem dec_writes : (opsDec : List (HloOp τ sig (Elt F))).Forall fun op => op.writes ⊆ (decW.map (Proc.devRef (τ := τ) .tc)).toFinset :=
  forall_writes_sub_of_map rfl
theorem fvu_writes : (opsFvu : List (HloOp τ sig (Elt F))).Forall fun op => op.writes ⊆ (fvuW.map (Proc.devRef (τ := τ) .tc)).toFinset :=
  forall_writes_sub_of_map rfl

/-- Every run of the reference ends with each array at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsFvu (after opsDec (after opsTop (after opsEnc (launchContents m d)))) (Proc.devRef .tc b) := by
  refine (θ_run defs _ _).mono (fun r h d b => (h d b).trans ?_)
    (run_seq (by decide) (by decide) defs main (fun _ => ops) main_eq (fun _ => ops_sub) m ρ
      (fun _ => List.forall_iff_forall_mem.mp ops_fresh))
  rw [ops, after_append, after_append, after_append]

end Cert.ReferenceIdeal.Hand

end
-- ==== Proof.RefRun.lean ====
/-
  What the reference computes, stretch by stretch, as plain functions of arrays: `preOf` (pre-activations), `topVal`,
  `topIdx` and `denseOf` (the selection), `decOf` (the decoder), `fvuOf` (the fraction of variance left unexplained);
  and that the program's results are these functions of its arguments.
-/
module

public import proofs.«01_k».proof.Proof.RefOps

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The functions -/

/-- One tile of the encoder: `max ((x - b) · wᵀ + e) 0`. -/
def encTile (x : Fl F S2048x512) (b : Fl F S1x512) (w : Fl F S1x4096x512) (e : Fl F S1x4096) : Fl F S2048x4096 :=
  maximumf
    (addf
      (Host.dotGeneral dot_S2048x512_S512x4096_S2048x4096_1_0_0_1_n_n none
        (subf x (broadcastInDim S2048x512 ![0, 1] bcast_S1x512_S2048x512_0_1
          (broadcastInDim S1x512 ![1] bcast_S512_S1x512_1 (shapeCast S512 b shapeCasts_S1x512_S512))))
        (transpose S512x4096 [1, 0] (shapeCast S4096x512 w shapeCasts_S1x4096x512_S4096x512) transposes_S4096x512_S512x4096_1_0))
      (broadcastInDim S2048x4096 ![0, 1] bcast_S1x4096_S2048x4096_0_1
        (broadcastInDim S1x4096 ![1] bcast_S4096_S1x4096_1 (shapeCast S4096 e shapeCasts_S1x4096_S4096))))
    (broadcastInDim S2048x4096 ![] bcast_S_S2048x4096 (constant S_ .f32 0x00000000#32))

/-- The pre-activations of all tiles. -/
def preOf (x : Fl F S2048x2048) (we : Fl F S4x4096x512) (be : Fl F S4x4096) (bd : Fl F S4x512) : Fl F S2048x16384 :=
  catPre
    (encTile (extractStridedSlice S2048x512 ![0, 0] x slices_S2048x2048_S2048x512_0_0)
      (extractStridedSlice S1x512 ![0, 0] bd slices_S4x512_S1x512_0_0)
      (extractStridedSlice S1x4096x512 ![0, 0, 0] we slices_S4x4096x512_S1x4096x512_0_0_0)
      (extractStridedSlice S1x4096 ![0, 0] be slices_S4x4096_S1x4096_0_0))
    (encTile (extractStridedSlice S2048x512 ![0, 512] x slices_S2048x2048_S2048x512_0_512)
      (extractStridedSlice S1x512 ![1, 0] bd slices_S4x512_S1x512_1_0)
      (extractStridedSlice S1x4096x512 ![1, 0, 0] we slices_S4x4096x512_S1x4096x512_1_0_0)
      (extractStridedSlice S1x4096 ![1, 0] be slices_S4x4096_S1x4096_1_0))
    (encTile (extractStridedSlice S2048x512 ![0, 1024] x slices_S2048x2048_S2048x512_0_1024)
      (extractStridedSlice S1x512 ![2, 0] bd slices_S4x512_S1x512_2_0)
      (extractStridedSlice S1x4096x512 ![2, 0, 0] we slices_S4x4096x512_S1x4096x512_2_0_0)
      (extractStridedSlice S1x4096 ![2, 0] be slices_S4x4096_S1x4096_2_0))
    (encTile (extractStridedSlice S2048x512 ![0, 1536] x slices_S2048x2048_S2048x512_0_1536)
      (extractStridedSlice S1x512 ![3, 0] bd slices_S4x512_S1x512_3_0)
      (extractStridedSlice S1x4096x512 ![3, 0, 0] we slices_S4x4096x512_S1x4096x512_3_0_0)
      (extractStridedSlice S1x4096 ![3, 0] be slices_S4x4096_S1x4096_3_0))

/-- The 128 largest pre-activations of every row. -/
def topVal (pre : Fl F S2048x16384) : Fl F S2048x128 :=
  (Host.topK S2048x128 1 (FloatOps.cmpfTotal .gt) pre sliceFits_S2048x16384_S2048x128).1

/-- Where they stand. -/
def topIdx (pre : Fl F S2048x16384) : Ix F S2048x128 :=
  (Host.topK S2048x128 1 (FloatOps.cmpfTotal .gt) pre sliceFits_S2048x16384_S2048x128).2

/-- Row numbers, a negative one counted from the end. -/
def rowIdx : Ix F S2048x1 :=
  select
    (cmpi .slt (broadcastInDim S2048x1 ![0] bcast_S2048_S2048x1_0 (iotaInDim S2048 32 0))
      (broadcastInDim S2048x1 ![] bcast_S_S2048x1 (constantI S_ 32 0#32)))
    (addi (broadcastInDim S2048x1 ![0] bcast_S2048_S2048x1_0 (iotaInDim S2048 32 0))
      (broadcastInDim S2048x1 ![] bcast_S_S2048x1 (constantI S_ 32 2048#32)))
    (broadcastInDim S2048x1 ![0] bcast_S2048_S2048x1_0 (iotaInDim S2048 32 0))

/-- Column numbers, a negative one counted from the end. -/
def colIdx (ix : Ix F S2048x128) : Ix F S2048x128 :=
  select (cmpi .slt ix (broadcastInDim S2048x128 ![] bcast_S_S2048x128 (constantI S_ 32 0#32)))
    (addi ix (broadcastInDim S2048x128 ![] bcast_S_S2048x128 (constantI S_ 32 16384#32))) ix

/-- The array that holds the largest pre-activations where they stand and zero elsewhere. -/
def denseOf (pre : Fl F S2048x16384) : Fl F S2048x16384 :=
  Host.scatter scatter_S2048x16384_S2048x128x2_S2048x128_n_01_01_2 (fun _ b => b)
    (broadcastInDim S2048x16384 ![] bcast_S_S2048x16384 (constant S_ .f32 0x00000000#32))
    (pairIdx
      (broadcastInDim S2048x128x1 ![0, 1] bcast_S2048x128_S2048x128x1_0_1
        (broadcastInDim S2048x128 ![0, 1] bcast_S2048x1_S2048x128_0_1 (rowIdx (F := F))))
      (broadcastInDim S2048x128x1 ![0, 1] bcast_S2048x128_S2048x128x1_0_1 (colIdx (F := F) (topIdx pre))))
    (topVal pre)

/-- The zero that pads the decoder's blocks. -/
def zeroPad : Fl F S_ := constant S_ .f32 0x00000000#32

/-- The decoder's blocks along the diagonal, zero elsewhere. -/
def blockDiag (wd : Fl F S4x4096x512) : Fl F S16384x2048 :=
  stackRows
    (pad S4096x2048 ![0, 0] ![0, 1536] ![0, 0] (shapeCast S4096x512
      (extractStridedSlice S1x4096x512 ![0, 0, 0] wd slices_S4x4096x512_S1x4096x512_0_0_0) shapeCasts_S1x4096x512_S4096x512)
      zeroPad pads_S4096x512_S4096x2048_000_015360 h_S_)
    (pad S4096x2048 ![0, 512] ![0, 1024] ![0, 0] (shapeCast S4096x512
      (extractStridedSlice S1x4096x512 ![1, 0, 0] wd slices_S4x4096x512_S1x4096x512_1_0_0) shapeCasts_S1x4096x512_S4096x512)
      zeroPad pads_S4096x512_S4096x2048_000_51210240 h_S_)
    (pad S4096x2048 ![0, 1024] ![0, 512] ![0, 0] (shapeCast S4096x512
      (extractStridedSlice S1x4096x512 ![2, 0, 0] wd slices_S4x4096x512_S1x4096x512_2_0_0) shapeCasts_S1x4096x512_S4096x512)
      zeroPad pads_S4096x512_S4096x2048_000_10245120 h_S_)
    (pad S4096x2048 ![0, 1536] ![0, 0] ![0, 0] (shapeCast S4096x512
      (extractStridedSlice S1x4096x512 ![3, 0, 0] wd slices_S4x4096x512_S1x4096x512_3_0_0) shapeCasts_S1x4096x512_S4096x512)
      zeroPad pads_S4096x512_S4096x2048_000_153600 h_S_)

/-- The decoder's bias as one row. -/
def biasRow (bd : Fl F S4x512) : Fl F S2048 :=
  catBias
    (shapeCast S512 (extractStridedSlice S1x512 ![0, 0] bd slices_S4x512_S1x512_0_0) shapeCasts_S1x512_S512)
    (shapeCast S512 (extractStridedSlice S1x512 ![1, 0] bd slices_S4x512_S1x512_1_0) shapeCasts_S1x512_S512)
    (shapeCast S512 (extractStridedSlice S1x512 ![2, 0] bd slices_S4x512_S1x512_2_0) shapeCasts_S1x512_S512)
    (shapeCast S512 (extractStridedSlice S1x512 ![3, 0] bd slices_S4x512_S1x512_3_0) shapeCasts_S1x512_S512)

/-- The decoder: the product with the block-diagonal matrix, plus the bias. -/
def decOf (dense : Fl F S2048x16384) (wd : Fl F S4x4096x512) (bd : Fl F S4x512) : Fl F S2048x2048 :=
  addf (Host.dotGeneral dot_S2048x16384_S16384x2048_S2048x2048_1_0_0_1_n_n none dense (blockDiag wd))
    (broadcastInDim S2048x2048 ![0, 1] bcast_S1x2048_S2048x2048_0_1
      (broadcastInDim S1x2048 ![1] bcast_S2048_S1x2048_1 (biasRow bd)))

/-- `x` less its column means. -/
def centred (x : Fl F S2048x2048) : Fl F S2048x2048 :=
  subf x (broadcastInDim S2048x2048 ![0, 1] bcast_S1x2048_S2048x2048_0_1
    (broadcastInDim S1x2048 ![1] bcast_S2048_S1x2048_1
      (Host.divf (Host.reduceAdd x (constant S_ .f32 0x00000000#32) reducesTo_S2048x2048_S2048_d0 h_S_)
        (broadcastInDim S2048 ![] bcast_S_S2048 (constant S_ .f32 0x45000000#32)))))

/-- The sum of an array's squares. -/
def sumSq (v : Fl F S2048x2048) : Fl F S_ :=
  Host.reduceAdd (mulf v v) (constant S_ .f32 0x00000000#32) reducesTo_S2048x2048_S_d0_1 h_S_

/-- The fraction of variance left unexplained by `out`. -/
def fvuOf (x out : Fl F S2048x2048) : Fl F S_ := Host.divf (sumSq (subf x out)) (sumSq (centred x))

/-! ## The stretches compute them -/

set_option maxHeartbeats 8000000 in
/-- The encoder leaves the pre-activations. -/
theorem enc_pre (V : Valuation τ sig (Elt F)) :
    after opsEnc V (Proc.devRef .tc main_v64)
      = preOf (V (Proc.devRef .tc main_arg0)) (V (Proc.devRef .tc main_arg1)) (V (Proc.devRef .tc main_arg2)) (V (Proc.devRef .tc main_arg4)) := by
  after_results_simp <;> rfl

/-- The selection leaves the largest pre-activations … -/
theorem top_val (V : Valuation τ sig (Elt F)) :
    after opsTop V (Proc.devRef .tc main_values) = topVal (V (Proc.devRef .tc main_v64)) := by
  after_results_simp <;> rfl
/-- … where they stand … -/
theorem top_idx (V : Valuation τ sig (Elt F)) :
    after opsTop V (Proc.devRef .tc main_indices) = topIdx (F := F) (V (Proc.devRef .tc main_v64)) := by
  after_results_simp <;> rfl
/-- … and the array that holds only them. -/
theorem top_dense (V : Valuation τ sig (Elt F)) :
    after opsTop V (Proc.devRef .tc main_v82) = denseOf (V (Proc.devRef .tc main_v64)) := by
  after_results_simp <;> rfl

set_option maxHeartbeats 8000000 in
/-- The decoder leaves its product. -/
theorem dec_out (V : Valuation τ sig (Elt F)) :
    after opsDec V (Proc.devRef .tc main_v104)
      = decOf (V (Proc.devRef .tc main_v82)) (V (Proc.devRef .tc main_arg3)) (V (Proc.devRef .tc main_arg4)) := by
  after_results_simp <;> rfl

/-- The last stretch leaves the fraction of variance … -/
theorem fvu_fvu (V : Valuation τ sig (Elt F)) :
    after opsFvu V (Proc.devRef .tc main_v116) = fvuOf (V (Proc.devRef .tc main_arg0)) (V (Proc.devRef .tc main_v104)) := by
  after_results_simp <;> rfl
/-- … and the two zero losses. -/
theorem fvu_zero7 (V : Valuation τ sig (Elt F)) :
    after opsFvu V (Proc.devRef .tc main_cst_7) = (constant S_ .f32 0x00000000#32 : Fl F S_) := by
  after_results_simp <;> rfl
theorem fvu_zero8 (V : Valuation τ sig (Elt F)) :
    after opsFvu V (Proc.devRef .tc main_cst_8) = (constant S_ .f32 0x00000000#32 : Fl F S_) := by
  after_results_simp <;> rfl

end Cert.ReferenceIdeal.Hand

end
-- ==== Proof.KernelHost.lean ====
/-
  The kernel's host stretches: the transposition before the encoder, the selection between the two kernels, and the
  quotient at the end.
-/
module

public import proofs.«01_k».proof.Proof.KernelRun
public import proofs.«01_k».proof.Proof.RefRun

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand (Fl preOf decOf denseOf topVal topIdx fvuOf)

variable {F : FTy → Type} [FloatOps F] (V : Valuation τ sig (Elt F))

/-- The first stretch transposes the encoder's weights. -/
theorem host0_v0 : after hostOps0 V (Proc.devRef .tc main_v0)
    = transpose S4x512x4096 [0, 2, 1] (V (Proc.devRef .tc main_arg1)) transposes_S4x4096x512_S4x512x4096_0_2_1 := by
  after_results_simp <;> rfl

/-- The second stretch selects the largest pre-activations … -/
theorem host1_values : after hostOps1 V (Proc.devRef .tc main_values) = topVal (V (Proc.devRef .tc main_v1)) := by
  after_results_simp <;> rfl
/-- … where they stand … -/
theorem host1_indices : after hostOps1 V (Proc.devRef .tc main_indices) = topIdx (F := F) (V (Proc.devRef .tc main_v1)) := by
  after_results_simp <;> rfl
/-- The second stretch up to the pairs of indices. -/
abbrev selHead : List (HloOp τ sig (Elt F)) := hostOps1.take 23
/-- Its last two operations: the pairs of indices, and the scatter. -/
abbrev selTail : List (HloOp τ sig (Elt F)) :=
  [ binary main_v16 main_v17 main_v18 Cert.ReferenceIdeal.Hand.pairIdx,
    ternary main_v4 main_v18 main_values main_v19 ((fun x i u => Host.scatter scatter_S2048x16384_S2048x128x2_S2048x128_n_01_01_2 (fun _ b => b) x i u) : Fl F S2048x16384 → (⟨S2048x128x2, .i32⟩ : BufTy).Contents (Elt F) → Fl F S2048x128 → Fl F S2048x16384) ]
theorem sel_split : (hostOps1 : List (HloOp τ sig (Elt F))) = selHead ++ selTail := rfl

theorem selTail_dense : after selTail V (Proc.devRef .tc main_v19)
    = (Host.scatter scatter_S2048x16384_S2048x128x2_S2048x128_n_01_01_2 (fun _ b => b) (V (Proc.devRef .tc main_v4))
        (Cert.ReferenceIdeal.Hand.pairIdx (V (Proc.devRef .tc main_v16)) (V (Proc.devRef .tc main_v17))) (V (Proc.devRef .tc main_values)) : Fl F S2048x16384) := by
  after_results_simp <;> rfl
theorem selHead_zero : after selHead V (Proc.devRef .tc main_v4)
    = (broadcastInDim S2048x16384 ![] bcast_S_S2048x16384 (constant S_ .f32 0x00000000#32) : Fl F S2048x16384) := by
  simp only [selHead, hostOps1, List.take]
  after_results_simp <;> rfl
theorem selHead_values : after selHead V (Proc.devRef .tc main_values) = topVal (V (Proc.devRef .tc main_v1)) := by
  simp only [selHead, hostOps1, List.take]
  after_results_simp <;> rfl
theorem selHead_rows : after selHead V (Proc.devRef .tc main_v16)
    = (broadcastInDim S2048x128x1 ![0, 1] bcast_S2048x128_S2048x128x1_0_1
        (broadcastInDim S2048x128 ![0, 1] bcast_S2048x1_S2048x128_0_1 (Cert.ReferenceIdeal.Hand.rowIdx (F := F)))) := by
  simp only [selHead, hostOps1, List.take]
  after_results_simp <;> rfl
theorem selHead_cols : after selHead V (Proc.devRef .tc main_v17)
    = (broadcastInDim S2048x128x1 ![0, 1] bcast_S2048x128_S2048x128x1_0_1
        (Cert.ReferenceIdeal.Hand.colIdx (F := F) (topIdx (F := F) (V (Proc.devRef .tc main_v1))))) := by
  simp only [selHead, hostOps1, List.take]
  after_results_simp <;> rfl

/-- … and the array that holds them there. -/
theorem host1_dense : after hostOps1 V (Proc.devRef .tc main_v19) = denseOf (V (Proc.devRef .tc main_v1)) := by
  rw [sel_split, after_append, selTail_dense, selHead_zero, selHead_values, selHead_rows, selHead_cols]
  rfl

/-- The last stretch divides the two sums … -/
theorem host2_fvu : after hostOps2 V (Proc.devRef .tc main_v23)
    = (Host.divf (shapeCast S_ (V (Proc.devRef .tc main_v20_1)) shapeCasts_S1x1_S_)
        (shapeCast S_ (V (Proc.devRef .tc main_v20_2)) shapeCasts_S1x1_S_) : Fl F S_) := by
  after_results_simp <;> rfl
/-- … and leaves the two zeros. -/
theorem host2_zero3 : after hostOps2 V (Proc.devRef .tc main_cst_3) = (constant S_ .f32 0x00000000#32 : Fl F S_) := by
  after_results_simp <;> rfl
theorem host2_zero4 : after hostOps2 V (Proc.devRef .tc main_cst_4) = (constant S_ .f32 0x00000000#32 : Fl F S_) := by
  after_results_simp <;> rfl

end Cert.KernelIdeal.Hand

end
-- ==== Proof.Encode.lean ====
/-
  The encoder's kernel, over the extended reals: after its sixteen grid points its result array holds the reference's
  pre-activations.
-/
module

public import proofs.«01_k».proof.Proof.Gen.KernelIdeal.Frame
public import proofs.«01_k».proof.Proof.RefRun
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Hand (Fl preOf encTile catPre decOf denseOf topVal topIdx fvuOf)

variable (V : (c : Dev nD) → (b : Ref sig .tc) → Buf (Elt Ideal) ((c : Thread nD τ).loc b))

/-- Where the encoder's blocks lie at each grid point. -/
theorem idx0 : ∀ t : Fin cfg0.N, win0_0.index t = ![t.val, 0] ∧ win0_1.index t = ![0, 0, 0] ∧ win0_2.index t = ![0, 0]
    ∧ win0_3.index t = ![0, 0] ∧ win0_4.index t = ![t.val, 0] :=
  (by decide +kernel : ∀ t : Fin grid0.N, _)

/-- What the encoder stores at block index `y` of point `t` is the pre-activation at the place of `y`. -/
theorem enc_point (c : Dev nD) (we : Fl Ideal Cert.ReferenceIdeal.S4x4096x512)
    (hW : V c main_v0 = fun i => we (ix3 (i 0) (i 2) (i 1))) (t : Fin cfg0.N) (y : S128x16384.Idx) :
    out0_4 (iblk0 V c 0 t) (iblk0 V c 1 t) (iblk0 V c 2 t) (iblk0 V c 3 t) y
      = preOf (V c main_arg0) we (V c main_arg2) (V c main_arg4) (((cfg0.win 4).blk t).view.emb y) := by
  obtain ⟨j, hj⟩ : ∃ j : S2048x16384.Idx, j = ((cfg0.win 4).blk t).view.emb y := ⟨_, rfl⟩
  have hj0 : (j 0 : ℕ) = t.val * 128 + y 0 := by rw [hj]; blk_simp [idx0 t]
  have hj1 : (j 1 : ℕ) = y 1 := by rw [hj]; blk_simp [idx0 t]
  rw [← hj]
  clear hj
  canon_tiles x h
  case piece0 =>
    pointwise [k0_pay2, preOf, encTile, catPre]
    rw [dif_neg (by omega), dif_neg (by omega), dif_neg (by omega)]
    blk_point [iblk0, hW, idx0 t]
  case piece1 =>
    pointwise [k0_pay1, preOf, encTile, catPre]
    rw [dif_neg (by omega), dif_neg (by omega), dif_pos (by omega)]
    blk_point [iblk0, hW, idx0 t]
  case piece2 =>
    pointwise [k0_pay4, preOf, encTile, catPre]
    rw [dif_neg (by omega), dif_pos (by omega)]
    blk_point [iblk0, hW, idx0 t]
  case piece3 =>
    pointwise [k0_pay3, preOf, encTile, catPre]
    rw [dif_pos (by omega)]
    blk_point [iblk0, hW, idx0 t]

/-- The encoder's result array. -/
theorem enc_array (c : Dev nD) (we : Fl Ideal Cert.ReferenceIdeal.S4x4096x512)
    (hW : V c main_v0 = fun i => we (ix3 (i 0) (i 2) (i 1))) :
    (dat0 V c).arrAt 4 cfg0.N = preOf (V c main_arg0) we (V c main_arg2) (V c main_arg4) := by
  refine (dat0 V c).arrAt_eq_of_covers 4 _ (by decide +kernel) fun t _ y => ?_
  blk_simp
  rw [after0_4]
  exact enc_point V c we hW t y

end Cert.KernelIdeal.Hand

end
-- ==== Proof.RefDec.lean ====
/-
  The reference's decoder at an index, over the extended reals: the zeros of the block-diagonal matrix drop out, and what
  is left is the product of one tile with its own block.
-/
module

public import proofs.«01_k».proof.Proof.RefRun
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo

/-- One padded block at an index: the block's entry inside its columns, zero outside. -/
theorem pad_at (lo hi : ℕ) (h : S4096x512.Pads (![0, lo] : Fin 2 → ℕ) ![0, hi] ![0, 0] S4096x2048) (v : Fl Ideal S4096x512)
    (k : Fin 4096) (n : Fin 2048) :
    (pad S4096x2048 ![0, lo] ![0, hi] ![0, 0] v zeroPad h h_S_ : Fl Ideal S4096x2048) (ix2 k n)
      = if h : lo ≤ n.val ∧ n.val - lo < 512 then v (ix2 k ⟨n - lo, h.2⟩) else 0 := by
  pointwise [zeroPad]

/-- Tile `q`'s block, as the reference reads it out of the decoder's weights. -/
theorem wdec_at (q : ℕ) (hq : q < 4) (h : S4x4096x512.Slices ![q, 0, 0] S1x4096x512) (wd : Fl Ideal S4x4096x512) (k : Fin 4096) (d : Fin 512) :
    shapeCast S4096x512 (extractStridedSlice S1x4096x512 ![q, 0, 0] wd h) shapeCasts_S1x4096x512_S4096x512 (ix2 k d)
      = wd (ix3 ⟨q, hq⟩ k d) := by
  pointwise

/-- The four blocks on top of one another: row `k` is row `k % 4096` of block `k / 4096`. -/
theorem stackRows_at (a b c d : Fl Ideal S4096x2048) (k : Fin 16384) (n : Fin 2048) :
    stackRows a b c d (ix2 k n)
      = if k.val / 4096 = 0 then a (ix2 ⟨k % 4096, by omega⟩ n) else if k.val / 4096 = 1 then b (ix2 ⟨k % 4096, by omega⟩ n)
        else if k.val / 4096 = 2 then c (ix2 ⟨k % 4096, by omega⟩ n) else d (ix2 ⟨k % 4096, by omega⟩ n) := by
  pointwise [stackRows]
  have hk := k.isLt
  obtain h | h | h | h : k.val / 4096 = 0 ∨ k.val / 4096 = 1 ∨ k.val / 4096 = 2 ∨ k.val / 4096 = 3 := by omega
  all_goals simp only [h, if_true, if_false, OfNat.ofNat_ne_zero, OfNat.ofNat_ne_one, one_ne_zero, Nat.reduceEqDiff]
  · rw [dif_pos (by omega)]; blk_ext
  · rw [dif_neg (by omega), dif_pos (by omega)]; blk_ext
  · rw [dif_neg (by omega), dif_neg (by omega), dif_pos (by omega)]; blk_ext
  · rw [dif_neg (by omega), dif_neg (by omega), dif_neg (by omega)]; blk_ext

/-- The block-diagonal matrix at row `k`, column `n`: the entry of the block if both lie in the same one, else zero. -/
theorem blockDiag_at (wd : Fl Ideal S4x4096x512) (k : Fin 16384) (n : Fin 2048) :
    blockDiag wd (ix2 k n)
      = if k.val / 4096 = n.val / 512 then wd (ix3 ⟨n / 512, by omega⟩ ⟨k % 4096, by omega⟩ ⟨n % 512, by omega⟩) else 0 := by
  have hk := k.isLt
  have hn := n.isLt
  rw [blockDiag, stackRows_at, pad_at, pad_at, pad_at, pad_at]
  split_ifs <;> first
    | omega
    | rfl
    | (first | rw [wdec_at 0 (by decide)] | rw [wdec_at 1 (by decide)] | rw [wdec_at 2 (by decide)] | rw [wdec_at 3 (by decide)]
       congr 2 <;> (apply Fin.ext; dsimp only; omega))

/-- The decoder's bias at column `n`. -/
theorem biasRow_at (bd : Fl Ideal S4x512) (n : Fin 2048) :
    biasRow bd (ix1 n) = bd (ix2 ⟨n / 512, by omega⟩ ⟨n % 512, by omega⟩) := by
  have hn := n.isLt
  pointwise [biasRow, catBias]
  split_ifs <;> blk_ext

/-- The decoder at row `r`, column `n`: the row's tile times the tile's block, plus the bias. -/
theorem decOf_at (D : Fl Ideal S2048x16384) (wd : Fl Ideal S4x4096x512) (bd : Fl Ideal S4x512) (r n : Fin 2048) :
    decOf D wd bd (ix2 r n)
      = (∑ k : Fin 4096, D (ix2 r ⟨n / 512 * 4096 + k, by omega⟩) * wd (ix3 ⟨n / 512, by omega⟩ k ⟨n % 512, by omega⟩))
        + bd (ix2 ⟨n / 512, by omega⟩ ⟨n % 512, by omega⟩) := by
  have e : decOf D wd bd (ix2 r n)
      = (∑ k : Fin 16384, D (ix2 r k) * blockDiag wd (ix2 k n)) + biasRow bd (ix1 n) := by pointwise [decOf]
  rw [e, biasRow_at, ← Fin.sum_mul_add_fin 4 4096 (fun k : Fin 16384 => D (ix2 r k) * blockDiag wd (ix2 k n))]
  refine congrArg (· + _) ?_
  refine (Finset.sum_eq_single (⟨n / 512, by omega⟩ : Fin 4) ?_ ?_).trans ?_
  rotate_left 2
  · refine Finset.sum_congr rfl fun k _ => ?_
    rw [blockDiag_at, if_pos (by dsimp only; omega)]
    refine congrArg₂ (· * ·) ?_ ?_ <;> blk_ext
  · intro q _ hq
    refine Finset.sum_eq_zero fun k _ => ?_
    have : q.val ≠ n / 512 := fun h => hq (Fin.ext h)
    rw [blockDiag_at, if_neg (by dsimp only; omega), mul_zero]
  · exact fun h => absurd (Finset.mem_univ _) h

end Cert.ReferenceIdeal.Hand

end
-- ==== Proof.Decode.lean ====
/-
  The decoder's kernel, over the extended reals: after its sixteen grid points its first result array holds the
  reference's decoder output.
-/
module

public import proofs.«01_k».proof.Proof.Gen.KernelIdeal.Frame
public import proofs.«01_k».proof.Proof.RefDec
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Hand (Fl preOf decOf denseOf topVal topIdx fvuOf decOf_at)

variable (V : (c : Dev nD) → (b : Ref sig .tc) → Buf (Elt Ideal) ((c : Thread nD τ).loc b))

/-- Where the decoder's blocks lie at each grid point. -/
theorem idx1 : ∀ t : Fin cfg1.N, win1_0.index t = ![t.val, 0] ∧ win1_1.index t = ![0, 0, 0] ∧ win1_2.index t = ![0, 0]
    ∧ win1_3.index t = ![t.val, 0] ∧ win1_4.index t = ![t.val, 0] :=
  (by decide +kernel : ∀ t : Fin grid1.N, _)

/-- What the decoder's kernel computes from one block `D` of 128 rows. -/
def blockOut (D : Vec Ideal S128x16384 .f32) (wd : Vec Ideal S4x4096x512 .f32) (bd : Vec Ideal S4x512 .f32) : Vec Ideal S128x2048 .f32 :=
  k1_pay8
    (k1_pay3 D bd (View.ld wd (Rect.unit ![0, 0, 0] ![1, 4096, 512] inb_S4x4096x512_S1x4096x512_0_0_0)))
    (k1_pay4 D bd (View.ld wd (Rect.unit ![1, 0, 0] ![1, 4096, 512] inb_S4x4096x512_S1x4096x512_1_0_0)))
    (k1_pay5 D bd (View.ld wd (Rect.unit ![2, 0, 0] ![1, 4096, 512] inb_S4x4096x512_S1x4096x512_2_0_0)))
    (k1_pay6 D (View.ld wd (Rect.unit ![3, 0, 0] ![1, 4096, 512] inb_S4x4096x512_S1x4096x512_3_0_0)))
    (k1_pay7 bd)

/-- It is, at row `r` and column `n`, the row's tile times the tile's block, plus the bias. -/
theorem blockOut_at (D : Vec Ideal S128x16384 .f32) (wd : Vec Ideal S4x4096x512 .f32) (bd : Vec Ideal S4x512 .f32)
    (r : Fin 128) (n : Fin 2048) :
    blockOut D wd bd (ix2 r n)
      = (∑ k : Fin 4096, D (ix2 r ⟨n / 512 * 4096 + k, by omega⟩) * wd (ix3 ⟨n / 512, by omega⟩ k ⟨n % 512, by omega⟩))
        + bd (ix2 ⟨n / 512, by omega⟩ ⟨n % 512, by omega⟩) := by
  pointwise [blockOut, k1_pay8, k1_pay3, k1_pay4, k1_pay5, k1_pay6, k1_pay7, k1_pay2]
  obtain h | h | h | h : n.val / 512 = 0 ∨ n.val / 512 = 1 ∨ n.val / 512 = 2 ∨ n.val / 512 = 3 := by omega
  · rw [dif_pos (by omega)]; blk_point []
  · rw [dif_neg (by omega), dif_pos (by omega)]; blk_point []
  · rw [dif_neg (by omega), dif_neg (by omega), dif_pos (by omega)]; blk_point []
  · rw [dif_neg (by omega), dif_neg (by omega), dif_neg (by omega)]; blk_point []

/-- What the kernel computes at point `t` is the reference's decoder output on the point's rows. -/
theorem blockOut_dec (c : Dev nD) (t : Fin cfg1.N) (r : Fin 128) (n : Fin 2048) (i : Fin 2048) (hi : i.val = t.val * 128 + r) :
    blockOut (iblk1 V c 0 t) (iblk1 V c 1 t) (iblk1 V c 2 t) (ix2 r n)
      = decOf (V c main_v19) (V c main_arg3) (V c main_arg4) (ix2 i n) := by
  rw [blockOut_at, decOf_at]
  blk_point [iblk1, idx1 t]

/-- The decoder's first result array. -/
theorem dec_array (c : Dev nD) :
    (dat1 V c).arrAt 4 cfg1.N = decOf (V c main_v19) (V c main_arg3) (V c main_arg4) := by
  refine (dat1 V c).arrAt_eq_of_covers 4 _ (by decide +kernel) fun t _ y => ?_
  have key : blockOut (iblk1 V c 0 t) (iblk1 V c 1 t) (iblk1 V c 2 t) y
      = decOf (V c main_v19) (V c main_arg3) (V c main_arg4) (((cfg1.win 4).blk t).view.emb y) := by
    obtain ⟨j, hj⟩ : ∃ j : S2048x2048.Idx, j = ((cfg1.win 4).blk t).view.emb y := ⟨_, rfl⟩
    have hj0 : (j 0 : ℕ) = t.val * 128 + y 0 := by rw [hj]; blk_simp [idx1 t]
    have hj1 : (j 1 : ℕ) = y 1 := by rw [hj]; blk_simp [idx1 t]
    rw [← hj]
    clear hj
    refine Eq.trans (congrArg _ (eq_ix2 (y : S128x2048.Idx))) ((blockOut_dec V c t (y 0) (y 1) (j 0) hj0).trans (congrArg _ ?_))
    exact (congrArg (ix2 (j 0)) (Fin.ext hj1.symm)).trans (eq_ix2 j).symm
  blk_simp
  rw [after1_4]
  by_cases h0 : t.val % 16 = 0
  · rw [outsAt1_A V c t h0 (by omega)]
    frame_out
    exact key
  · by_cases h1 : t.val % 16 = 15
    · rw [outsAt1_C V c t h0 h1]
      frame_out
      exact key
    · rw [outsAt1_B V c t h0 h1]
      frame_out
      exact key

end Cert.KernelIdeal.Hand

end
-- ==== Proof.Sums.lean ====
/-
  The three sums of the decoder's kernel, over the extended reals: what one grid point adds to each, what they hold after
  every point, and what the last point makes of the second.
-/
module

public import proofs.«01_k».proof.Proof.Decode

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Hand (Fl preOf decOf denseOf topVal topIdx fvuOf decOf_at)

/-! ## What one point adds -/

theorem pay9_at (j : S1x1.Idx) : k1_pay9 (F := Ideal) j = 0 := by pointwise [k1_pay9]
theorem pay10_at (j : S1x1.Idx) : k1_pay10 (F := Ideal) j = 0 := by pointwise [k1_pay10]
theorem pay11_at (j : S1x2048.Idx) : k1_pay11 (F := Ideal) j = 0 := by pointwise [k1_pay11]

/-- The squared error: what was there plus the block's. -/
theorem pay12_at (x : Vec Ideal S128x2048 .f32) (a b c d : FVec Ideal S128x512 .f32) (e : FVec Ideal S512 .f32) (acc : Vec Ideal S1x1 .f32) (j : S1x1.Idx) :
    k1_pay12 x a b c d e acc j = acc j + ∑ r : Fin 128, ∑ n : Fin 2048,
      (x (ix2 r n) - k1_pay8 a b c d e (ix2 r n)) * (x (ix2 r n) - k1_pay8 a b c d e (ix2 r n)) := by
  pointwise [k1_pay12]

/-- The squares: what was there plus the block's. -/
theorem pay13_at (x : Vec Ideal S128x2048 .f32) (acc : Vec Ideal S1x1 .f32) (j : S1x1.Idx) :
    k1_pay13 x acc j = acc j + ∑ r : Fin 128, ∑ n : Fin 2048, x (ix2 r n) * x (ix2 r n) := by
  pointwise [k1_pay13]

/-- The column sums: what was there plus the block's. -/
theorem pay14_at (x : Vec Ideal S128x2048 .f32) (acc : Vec Ideal S1x2048 .f32) (j : S1x2048.Idx) :
    k1_pay14 x acc j = acc j + ∑ r : Fin 128, x (ix2 r (j 1)) := by
  pointwise [k1_pay14]

/-- The last point: the squares less the squared column sums over 2048. -/
theorem pay1_at (cs : Vec Ideal S1x2048 .f32) (tv : Vec Ideal S1x1 .f32) (j : S1x1.Idx) :
    k1_pay1 cs tv j = tv j - Ideal.div (∑ n : Fin 2048, cs (ix2 0 n) * cs (ix2 0 n)) (Scalar.ofBits (F := Ideal) .f32 0x45000000#32) := by
  pointwise [k1_pay1]
  rw [Fin.sum_univ_one]

/-! ## What the sums hold after every point -/

/-- `g` summed over the 128 rows of point `p`. -/
def rowSum (g : Fin 2048 → EReal) (p : ℕ) : EReal := ∑ r : Fin 128, if h : p * 128 + r.val < 2048 then g ⟨p * 128 + r, h⟩ else 0

/-- Over the sixteen points it is `g` summed over all rows. -/
theorem rowSum_total (g : Fin 2048 → EReal) : ∑ p ∈ Finset.range 16, rowSum g p = ∑ i : Fin 2048, g i := by
  rw [Finset.sum_range]
  exact Fin.sum_mul_add_congr (fun s k hl => dif_pos hl)

/-- At a point of the grid the sum over its rows, by the rows. -/
theorem rowSum_of (g : Fin 2048 → EReal) (t : Fin cfg1.N) (a : Fin 128 → EReal)
    (h : ∀ (r : Fin 128) (i : Fin 2048), i.val = t.val * 128 + r → a r = g i) : ∑ r : Fin 128, a r = rowSum g t := by
  have hN : cfg1.N = 16 := N_1
  have ht := t.isLt
  refine Finset.sum_congr rfl fun r _ => ?_
  have hr : t.val * 128 + r.val < 2048 := by omega
  rw [dif_pos hr]
  exact h r ⟨_, hr⟩ rfl

/-- A sequence over the points that starts with the first point's rows and adds a point's rows at every later point up to
    `M` is the sum over the points so far. -/
theorem acc_sum (f : (n : ℕ) → n < cfg1.N → EReal) (g : Fin 2048 → EReal) (M : ℕ)
    (h0 : ∀ t : Fin cfg1.N, t.val % 16 = 0 → f t.val t.isLt = rowSum g t)
    (hs : ∀ t : Fin cfg1.N, ¬ t.val % 16 = 0 → t.val ≤ M → f t.val t.isLt = f (t.val - 1) (Nat.lt_of_le_of_lt (Nat.sub_le _ _) t.isLt) + rowSum g t) :
    ∀ (n : ℕ) (hn : n < cfg1.N), n ≤ M → f n hn = ∑ p ∈ Finset.range (n + 1), rowSum g p
  | 0, hn, _ => by rw [Finset.sum_range_one]; exact h0 ⟨0, hn⟩ rfl
  | n + 1, hn, hM => by
    have hN : cfg1.N = 16 := N_1
    rw [Finset.sum_range_succ, ← acc_sum f g M h0 hs n (by omega) (by omega)]
    exact hs ⟨n + 1, hn⟩ (by dsimp only; omega) hM

variable (V : (c : Dev nD) → (b : Ref sig .tc) → Buf (Elt Ideal) ((c : Thread nD τ).loc b))

/-- The input's block at point `t`, and what the kernel computes there. -/
abbrev xB (c : Dev nD) (t : Fin cfg1.N) : FVec Ideal S128x2048 .f32 := iblk1 V c 3 t
abbrev oB (c : Dev nD) (t : Fin cfg1.N) : FVec Ideal S128x2048 .f32 := blockOut (iblk1 V c 0 t) (iblk1 V c 1 t) (iblk1 V c 2 t)

/-- The input's block at point `t`: 128 of its rows. -/
theorem xblk (c : Dev nD) (t : Fin cfg1.N) (r : Fin 128) (n : Fin 2048) (i : Fin 2048) (hi : i.val = t.val * 128 + r) :
    xB V c t (ix2 r n) = (V c main_arg0 : Fl Ideal S2048x2048) (ix2 i n) := by
  blk_point [iblk1, idx1 t]

/-- What the kernel computes there: 128 rows of the decoder's output. -/
theorem oblk (c : Dev nD) (t : Fin cfg1.N) (r : Fin 128) (n : Fin 2048) (i : Fin 2048) (hi : i.val = t.val * 128 + r) :
    oB V c t (ix2 r n) = decOf (V c main_v19) (V c main_arg3) (V c main_arg4) (ix2 i n) :=
  blockOut_dec V c t r n i hi

/-- The squared error of row `i`. -/
def rowErr (x o : Fl Ideal S2048x2048) (i : Fin 2048) : EReal := ∑ n : Fin 2048, (x (ix2 i n) - o (ix2 i n)) * (x (ix2 i n) - o (ix2 i n))
/-- The squares of row `i`. -/
def rowSq (x : Fl Ideal S2048x2048) (i : Fin 2048) : EReal := ∑ n : Fin 2048, x (ix2 i n) * x (ix2 i n)

/-- The squared error of point `t`'s rows, as the kernel adds it. -/
theorem err_block (c : Dev nD) (t : Fin cfg1.N) :
    (∑ r : Fin 128, ∑ n : Fin 2048,
      (xB V c t (ix2 r n) - oB V c t (ix2 r n))
        * (xB V c t (ix2 r n) - oB V c t (ix2 r n)))
      = rowSum (rowErr (V c main_arg0) (decOf (V c main_v19) (V c main_arg3) (V c main_arg4))) t :=
  rowSum_of _ t _ fun r i hi => Finset.sum_congr rfl fun n _ => by
    rw [xblk V c t r n i hi, oblk V c t r n i hi]

/-- The squares of point `t`'s rows, as the kernel adds them. -/
theorem sq_block (c : Dev nD) (t : Fin cfg1.N) :
    (∑ r : Fin 128, ∑ n : Fin 2048, xB V c t (ix2 r n) * xB V c t (ix2 r n))
      = rowSum (rowSq (V c main_arg0)) t :=
  rowSum_of _ t _ fun r i hi => Finset.sum_congr rfl fun n _ => by rw [xblk V c t r n i hi]

/-- The column sums of point `t`'s rows, as the kernel adds them. -/
theorem col_block (c : Dev nD) (t : Fin cfg1.N) (n : Fin 2048) :
    (∑ r : Fin 128, xB V c t (ix2 r n)) = rowSum (fun i => (V c main_arg0 : Fl Ideal S2048x2048) (ix2 i n)) t :=
  rowSum_of _ t _ fun r i hi => xblk V c t r n i hi

/-- The squared error after point `n`. -/
theorem err_after (c : Dev nD) (j : S1x1.Idx) (n : ℕ) (hn : n < cfg1.N) :
    (outsAt1 V c n hn).2.1 j
      = ∑ p ∈ Finset.range (n + 1), rowSum (rowErr (V c main_arg0) (decOf (V c main_v19) (V c main_arg3) (V c main_arg4))) p := by
  have hN : cfg1.N = 16 := N_1
  refine acc_sum (fun n h => (outsAt1 V c n h).2.1 j) _ 15 (fun t h => ?_) (fun t h _ => ?_) n hn (by omega)
  · rw [outsAt1_A V c t h (by omega)]
    frame_out
    rw [pay12_at, pay9_at, zero_add]
    exact err_block V c t
  · by_cases h1 : t.val % 16 = 15
    · rw [outsAt1_C V c t h h1]
      frame_out
      rw [pay12_at]
      exact congrArg (_ + ·) (err_block V c t)
    · rw [outsAt1_B V c t h h1]
      frame_out
      rw [pay12_at]
      exact congrArg (_ + ·) (err_block V c t)

/-- The column sums after point `n`. -/
theorem col_after (c : Dev nD) (j : S1x2048.Idx) (n : ℕ) (hn : n < cfg1.N) :
    (outsAt1 V c n hn).2.2.2 j
      = ∑ p ∈ Finset.range (n + 1), rowSum (fun i => (V c main_arg0 : Fl Ideal S2048x2048) (ix2 i (j 1))) p := by
  have hN : cfg1.N = 16 := N_1
  refine acc_sum (fun n h => (outsAt1 V c n h).2.2.2 j) _ 15 (fun t h => ?_) (fun t h _ => ?_) n hn (by omega)
  · rw [outsAt1_A V c t h (by omega)]
    frame_out
    rw [pay14_at, pay11_at, zero_add]
    exact col_block V c t (j 1)
  · by_cases h1 : t.val % 16 = 15
    · rw [outsAt1_C V c t h h1]
      frame_out
      rw [pay14_at]
      exact congrArg (_ + ·) (col_block V c t (j 1))
    · rw [outsAt1_B V c t h h1]
      frame_out
      rw [pay14_at]
      exact congrArg (_ + ·) (col_block V c t (j 1))

/-- The squares after a point before the last. -/
theorem sq_after (c : Dev nD) (j : S1x1.Idx) (n : ℕ) (hn : n < cfg1.N) (h14 : n ≤ 14) :
    (outsAt1 V c n hn).2.2.1 j = ∑ p ∈ Finset.range (n + 1), rowSum (rowSq (V c main_arg0)) p := by
  refine acc_sum (fun n h => (outsAt1 V c n h).2.2.1 j) _ 14 (fun t h => ?_) (fun t h hM => ?_) n hn h14
  · rw [outsAt1_A V c t h (by omega)]
    frame_out
    rw [pay13_at, pay10_at, zero_add]
    exact sq_block V c t
  · rw [outsAt1_B V c t h (by omega)]
    frame_out
    rw [pay13_at]
    exact congrArg (_ + ·) (sq_block V c t)

/-! ## The result arrays -/

/-- The sum of column `n`. -/
def colSum (x : Fl Ideal S2048x2048) (n : Fin 2048) : EReal := ∑ i : Fin 2048, x (ix2 i n)

/-- What the kernel leaves as total variance: the squares less the squared column sums over 2048. -/
def tvOf (x : Fl Ideal S2048x2048) : EReal :=
  (∑ i : Fin 2048, rowSq x i)
    - Ideal.div (∑ n : Fin 2048, colSum x n * colSum x n) (Scalar.ofBits (F := Ideal) .f32 0x45000000#32)

/-- The squares after the last point, where the squared column sums have come off. -/
theorem tv_last (c : Dev nD) (t : Fin cfg1.N) (h : t.val = 15) (j : S1x1.Idx) :
    (outsAt1 V c t.val t.isLt).2.2.1 j = tvOf (V c main_arg0) := by
  rw [outsAt1_C V c t (by omega) (by omega)]
  frame_out
  rw [pay1_at, pay13_at]
  have hsq : (outsAt1 V c (t.val - 1) (Nat.lt_of_le_of_lt (Nat.sub_le _ _) t.isLt)).2.2.1 j
      + (∑ r : Fin 128, ∑ n : Fin 2048, xB V c t (ix2 r n) * xB V c t (ix2 r n)) = ∑ i : Fin 2048, rowSq (V c main_arg0) i := by
    rw [sq_after V c j (t.val - 1) _ (by omega), sq_block, ← rowSum_total, show t.val - 1 + 1 = 15 from by omega, h]
    exact (Finset.sum_range_succ _ 15).symm
  have hcs : ∀ n : Fin 2048, k1_pay14 (xB V c t) (outsAt1 V c (t.val - 1) (Nat.lt_of_le_of_lt (Nat.sub_le _ _) t.isLt)).2.2.2 (ix2 0 n)
      = colSum (V c main_arg0) n := by
    intro n
    rw [pay14_at, col_after V c (ix2 0 n) (t.val - 1) _]
    refine Eq.trans (congrArg (_ + ·) (col_block V c t n)) ?_
    rw [colSum, ← rowSum_total, show t.val - 1 + 1 = 15 from by omega, h]
    exact (Finset.sum_range_succ _ 15).symm
  rw [tvOf]
  refine congrArg₂ (· - ·) hsq (congrArg (Ideal.div · _) (Finset.sum_congr rfl fun n _ => ?_))
  exact congrArg₂ (· * ·) (hcs n) (hcs n)

/-- The decoder's second result: the squared error of all rows. -/
theorem err_array (c : Dev nD) :
    (dat1 V c).arrAt 5 cfg1.N
      = fun _ => ∑ i : Fin 2048, rowErr (V c main_arg0) (decOf (V c main_v19) (V c main_arg3) (V c main_arg4)) i := by
  refine (dat1 V c).arrAt_eq_of_after_last 5 t1_15 (by decide +kernel) _ fun j => ?_
  blk_simp
  rw [after1_5, ← rowSum_total]
  exact err_after V c j t1_15.val t1_15.isLt

/-- The decoder's third result: the total variance. -/
theorem tv_array (c : Dev nD) : (dat1 V c).arrAt 6 cfg1.N = fun _ => tvOf (V c main_arg0) := by
  refine (dat1 V c).arrAt_eq_of_after_last 6 t1_15 (by decide +kernel) _ fun j => ?_
  blk_simp
  rw [after1_6]
  exact tv_last V c t1_15 rfl j

end Cert.KernelIdeal.Hand

end
-- ==== Proof.RefFvu.lean ====
/-
  The reference's fraction of variance left unexplained, over the extended reals, as sums over rows and columns.
-/
module

public import proofs.«01_k».proof.Proof.RefRun
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo

/-- The sum of squares, row by row. -/
theorem sumSq_at (v : Fl Ideal S2048x2048) (j : S_.Idx) :
    sumSq v j = ∑ i : Fin 2048, ∑ n : Fin 2048, v (ix2 i n) * v (ix2 i n) := by
  pointwise [sumSq]

/-- `x` less its column means, at an index. -/
theorem centred_at (x : Fl Ideal S2048x2048) (i n : Fin 2048) :
    centred x (ix2 i n) = x (ix2 i n) - Ideal.div (∑ k : Fin 2048, x (ix2 k n)) (Scalar.ofBits (F := Ideal) .f32 0x45000000#32) := by
  pointwise [centred]

end Cert.ReferenceIdeal.Hand

end
-- ==== Proof.Variance.lean ====
/-
  The equation of the two total variances. Over the reals the sum of squared deviations from the column means is the sum
  of squares less the squared column sums over the number of rows. Over the extended reals the two may differ, but only
  where both are infinite, and a quotient by either is then zero.
-/
module

public import Idealize.ShloMosaic.Lib.Pointwise

@[expose] public section

noncomputable section

namespace Cert.Variance

open Idealize.ShloMosaic

/-! ## Over the reals -/

/-- One column: `∑ (a - s/N)² = ∑ a² - s²/N`, where `s` is the column's sum and `N` the number of its entries. -/
theorem real_column {ι : Type*} [Fintype ι] (N : ℝ) (hN : N ≠ 0) (hc : (Fintype.card ι : ℝ) = N) (a : ι → ℝ) :
    ∑ i, (a i - (∑ k, a k) * (1 / N)) * (a i - (∑ k, a k) * (1 / N))
      = (∑ i, a i * a i) - (∑ k, a k) * (∑ k, a k) * (1 / N) := by
  generalize hs : ∑ k, a k = s
  have e : ∀ i, (a i - s * (1 / N)) * (a i - s * (1 / N)) = a i * a i + (-(2 * s * (1 / N))) * a i + s * s * (1 / N) * (1 / N) :=
    fun i => by ring
  simp only [e, Finset.sum_add_distrib, ← Finset.mul_sum, hs, Finset.sum_const, Finset.card_univ, nsmul_eq_mul, hc]
  field_simp
  ring

/-- All columns. -/
theorem real_total {ι κ : Type*} [Fintype ι] [Fintype κ] (N : ℝ) (hN : N ≠ 0) (hc : (Fintype.card ι : ℝ) = N) (a : ι → κ → ℝ) :
    (∑ i, ∑ n, a i n * a i n) - (∑ n, (∑ k, a k n) * (∑ k, a k n)) * (1 / N)
      = ∑ i, ∑ n, (a i n - (∑ k, a k n) * (1 / N)) * (a i n - (∑ k, a k n) * (1 / N)) := by
  rw [Finset.sum_comm, Finset.sum_comm (f := fun i n => (a i n - (∑ k, a k n) * (1 / N)) * (a i n - (∑ k, a k n) * (1 / N))),
    Finset.sum_mul, ← Finset.sum_sub_distrib]
  exact Finset.sum_congr rfl fun n _ => (real_column N hN hc fun i => a i n).symm

/-! ## Sums of extended reals -/

theorem coe_sum {ι : Type*} [Fintype ι] (a : ι → ℝ) : ((∑ i, a i : ℝ) : EReal) = ∑ i, (a i : EReal) := by
  classical
  refine Finset.induction_on (motive := fun s => ((∑ i ∈ s, a i : ℝ) : EReal) = ∑ i ∈ s, (a i : EReal)) Finset.univ (by simp) ?_
  intro i s hi ih
  rw [Finset.sum_insert hi, Finset.sum_insert hi, EReal.coe_add, ih]

theorem sum_ne_bot {ι : Type*} (s : Finset ι) (f : ι → EReal) (h : ∀ i ∈ s, f i ≠ ⊥) : ∑ i ∈ s, f i ≠ ⊥ :=
  Finset.sum_induction f (· ≠ ⊥) (fun _ _ ha hb => EReal.add_ne_bot_iff.mpr ⟨ha, hb⟩) (by decide) h

/-- A sum with a term `⊥` is `⊥`. -/
theorem sum_eq_bot {ι : Type*} [Fintype ι] (f : ι → EReal) (i : ι) (h : f i = ⊥) : ∑ i, f i = ⊥ := by
  classical
  rw [← Finset.add_sum_erase _ _ (Finset.mem_univ i), h, EReal.bot_add]

/-- A sum with a term `⊤` and no term `⊥` is `⊤`. -/
theorem sum_eq_top {ι : Type*} [Fintype ι] (f : ι → EReal) (i : ι) (h : f i = ⊤) (hb : ∀ k, f k ≠ ⊥) : ∑ i, f i = ⊤ := by
  classical
  rw [← Finset.add_sum_erase _ _ (Finset.mem_univ i), h]
  exact EReal.top_add_of_ne_bot (sum_ne_bot _ _ fun k _ => hb k)

/-- A sum with an infinite term is infinite. -/
theorem sum_inf {ι : Type*} [Fintype ι] (f : ι → EReal) (i : ι) (h : f i = ⊤ ∨ f i = ⊥) : ∑ i, f i = ⊤ ∨ ∑ i, f i = ⊥ := by
  by_cases hb : ∃ k, f k = ⊥
  · obtain ⟨k, hk⟩ := hb
    exact .inr (sum_eq_bot f k hk)
  · have hb' : ∀ k, f k ≠ ⊥ := fun k hk => hb ⟨k, hk⟩
    exact .inl (sum_eq_top f i (h.resolve_right (hb' i)) hb')

theorem sq_inf {x : EReal} (h : x = ⊤ ∨ x = ⊥) : x * x = ⊤ := by
  rcases h with rfl | rfl
  · exact EReal.top_mul_top
  · exact EReal.bot_mul_bot

theorem sq_ne_bot (x : EReal) : x * x ≠ ⊥ := by
  induction x with
  | bot => rw [sq_inf (.inr rfl)]; decide
  | top => rw [sq_inf (.inl rfl)]; decide
  | coe r => rw [← EReal.coe_mul]; exact EReal.coe_ne_bot _

/-- A double sum of squares with the square of an infinite number is `⊤`. -/
theorem sumSq_top {ι κ : Type*} [Fintype ι] [Fintype κ] (f : ι → κ → EReal) (i : ι) (n : κ) (h : f i n = ⊤ ∨ f i n = ⊥) :
    ∑ i, ∑ n, f i n * f i n = ⊤ :=
  sum_eq_top _ i (sum_eq_top _ n (sq_inf h) fun _ => sq_ne_bot _) fun _ => sum_ne_bot _ _ fun _ _ => sq_ne_bot _

/-! ## The quotients -/

theorem div_top (x : EReal) : Ideal.div x ⊤ = 0 := by
  rw [Ideal.div, if_neg (by decide), EReal.inv_top, mul_zero]
theorem div_bot (x : EReal) : Ideal.div x ⊥ = 0 := by
  rw [Ideal.div, if_neg (by decide), EReal.inv_bot, mul_zero]

theorem top_mul_pos {r : ℝ} (h : 0 < r) : (⊤ : EReal) * (r : EReal) = ⊤ := EReal.top_mul_coe_of_pos h
theorem bot_mul_pos {r : ℝ} (h : 0 < r) : (⊥ : EReal) * (r : EReal) = ⊥ := EReal.bot_mul_coe_of_pos h

/-- An infinite number over a positive one is infinite. -/
theorem div_inf {x : EReal} {N : ℝ} (hN : 0 < N) (h : x = ⊤ ∨ x = ⊥) : Ideal.div x (N : EReal) = ⊤ ∨ Ideal.div x (N : EReal) = ⊥ := by
  rw [Ideal.div_coe hN.ne']
  rcases h with rfl | rfl
  · exact .inl (top_mul_pos (by positivity))
  · exact .inr (bot_mul_pos (by positivity))

/-- The difference of a number and an infinite one is infinite. -/
theorem sub_inf (x : EReal) {y : EReal} (h : y = ⊤ ∨ y = ⊥) : x - y = ⊤ ∨ x - y = ⊥ := by
  rcases h with rfl | rfl
  · exact .inr (by rw [sub_eq_add_neg, EReal.neg_top, EReal.add_bot])
  · by_cases hx : x = ⊥
    · exact .inr (by rw [hx, sub_eq_add_neg, EReal.bot_add])
    · exact .inl (by rw [sub_eq_add_neg, EReal.neg_bot, EReal.add_top_of_ne_bot hx])

/-- Over `N` rows, a number over "the squares less the squared column sums over `N`" is the number over "the squared
    deviations from the column means". -/
theorem div_total {ι κ : Type*} [Fintype ι] [Fintype κ] (N : ℝ) (hN : 0 < N) (hc : (Fintype.card ι : ℝ) = N)
    (x : ι → κ → EReal) (e : EReal) :
    Ideal.div e ((∑ i, ∑ n, x i n * x i n) - Ideal.div (∑ n, (∑ k, x k n) * (∑ k, x k n)) (N : EReal))
      = Ideal.div e (∑ i, ∑ n, (x i n - Ideal.div (∑ k, x k n) (N : EReal)) * (x i n - Ideal.div (∑ k, x k n) (N : EReal))) := by
  by_cases hinf : ∃ i n, x i n = ⊤ ∨ x i n = ⊥
  · obtain ⟨i, n, h⟩ := hinf
    have hs : (∑ k, x k n) = ⊤ ∨ (∑ k, x k n) = ⊥ := sum_inf (fun k => x k n) i h
    rw [sumSq_top x i n h,
      sumSq_top (fun i n => x i n - Ideal.div (∑ k, x k n) (N : EReal)) i n (sub_inf _ (div_inf hN hs)),
      sum_eq_top (fun n => (∑ k, x k n) * (∑ k, x k n)) n (sq_inf hs) (fun _ => sq_ne_bot _),
      Ideal.div_coe hN.ne', top_mul_pos (by positivity), sub_eq_add_neg, EReal.neg_top, EReal.add_bot, div_top, div_bot]
  · have hx : ∀ i n, x i n = ((x i n).toReal : EReal) := fun i n =>
      (EReal.coe_toReal (fun h => hinf ⟨i, n, .inl h⟩) (fun h => hinf ⟨i, n, .inr h⟩)).symm
    obtain ⟨a, ha⟩ : ∃ a : ι → κ → ℝ, ∀ i n, x i n = (a i n : EReal) := ⟨_, hx⟩
    simp only [ha, Ideal.div_coe hN.ne', ← coe_sum, ← EReal.coe_mul, ← EReal.coe_sub, real_total N hN.ne' hc a]

end Cert.Variance

end
-- ==== Proof.KernelEnd.lean ====
/-
  The kernel's results, over the extended reals: each is the reference's function of the arguments.
-/
module

public import proofs.«01_k».proof.Proof.KernelHost
public import proofs.«01_k».proof.Proof.Encode
public import proofs.«01_k».proof.Proof.Sums
public import proofs.«01_k».proof.Proof.RefFvu
public import proofs.«01_k».proof.Proof.Variance

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand (Fl preOf decOf denseOf topVal topIdx fvuOf sumSq centred sumSq_at centred_at)

/-! ## The quotient -/

/-- The number of rows, as the programs spell it. -/
theorem rows : (Scalar.ofBits (F := Ideal) .f32 0x45000000#32 : EReal) = ((2048 : ℝ) : EReal) := by
  show Ideal.ofBits .f32 0x45000000#32 = _
  simp [Ideal.ofBits, Ideal.ieee, -EReal.coe_mul]; norm_num

/-- The squared error over the kernel's total variance is the reference's fraction of variance left unexplained. -/
theorem fvu_eq (x o : Fl Ideal S2048x2048) (j : S_.Idx) :
    Ideal.div (∑ i : Fin 2048, rowErr x o i) (tvOf x) = fvuOf x o j := by
  have e : fvuOf x o j
      = Ideal.div (sumSq (F := Ideal) (subf (F := Ideal) (φ := .f32) x o) j) (sumSq (F := Ideal) (centred x) j) := rfl
  rw [e, sumSq_at, sumSq_at]
  simp only [centred_at, tvOf, rows, rowSq, colSum]
  exact Cert.Variance.div_total 2048 (by norm_num) (by simp) (fun i n => x (ix2 i n)) _

/-! ## The arrays at the program's boundaries -/

variable (m : (ℓ : Loc nD τ sig) → Buf (Elt Ideal) ℓ) (ρ : Dev nD → PrngReg)

/-- The pre-activations of the arguments of device `c`. -/
abbrev pre (c : Dev nD) : Fl Ideal S2048x16384 :=
  preOf (m ((c.tc : Thread nD τ).loc main_arg0)) (m ((c.tc : Thread nD τ).loc main_arg1)) (m ((c.tc : Thread nD τ).loc main_arg2))
    (m ((c.tc : Thread nD τ).loc main_arg4))
/-- The decoder's output on the arguments of device `c`. -/
abbrev out (c : Dev nD) : Fl Ideal S2048x2048 :=
  decOf (denseOf (pre m c)) (m ((c.tc : Thread nD τ).loc main_arg3)) (m ((c.tc : Thread nD τ).loc main_arg4))

/-- The encoder's kernel finds the transposed weights … -/
theorem V1_v0 (c : Dev nD) : V1 m ρ c main_v0
    = fun i => (m ((c.tc : Thread nD τ).loc main_arg1) : Fl Ideal S4x4096x512) (ix3 (i 0) (i 2) (i 1)) := by
  refine (host0_v0 (W0 m ρ c)).trans ?_
  funext i
  pointwise

/-- … and leaves the pre-activations. -/
theorem W2_v1 (c : Dev nD) : W2 m ρ c (Proc.devRef .tc main_v1) = pre m c := by
  refine (W2_arr m ρ c 4).trans ((enc_array (V1 m ρ) c _ (V1_v0 m ρ c)).trans ?_)
  have a0 : V1 m ρ c main_arg0 = m ((c.tc : Thread nD τ).loc main_arg0) := W1_of m ρ c main_arg0 (by decide)
  have a2 : V1 m ρ c main_arg2 = m ((c.tc : Thread nD τ).loc main_arg2) := W1_of m ρ c main_arg2 (by decide)
  have a4 : V1 m ρ c main_arg4 = m ((c.tc : Thread nD τ).loc main_arg4) := W1_of m ρ c main_arg4 (by decide)
  rw [a0, a2, a4]

/-- The selection between the two kernels: the largest values … -/
theorem W3_values (c : Dev nD) : W3 m ρ c (Proc.devRef .tc main_values) = topVal (pre m c) := by
  rw [← W2_v1 m ρ c]; exact host1_values (W2 m ρ c)
/-- … their positions … -/
theorem W3_indices (c : Dev nD) : W3 m ρ c (Proc.devRef .tc main_indices) = topIdx (F := Ideal) (pre m c) := by
  rw [← W2_v1 m ρ c]; exact host1_indices (W2 m ρ c)
/-- … and the array with these values in their places, zero elsewhere. -/
theorem W3_dense (c : Dev nD) : V3 m ρ c main_v19 = denseOf (pre m c) := by
  rw [← W2_v1 m ρ c]; exact host1_dense (W2 m ρ c)

/-- The arguments are as launched when the decoder's kernel starts. -/
theorem V3_arg0 (c : Dev nD) : V3 m ρ c main_arg0 = m ((c.tc : Thread nD τ).loc main_arg0) := W3_args m ρ c main_arg0 (by decide)
theorem V3_arg3 (c : Dev nD) : V3 m ρ c main_arg3 = m ((c.tc : Thread nD τ).loc main_arg3) := W3_args m ρ c main_arg3 (by decide)
theorem V3_arg4 (c : Dev nD) : V3 m ρ c main_arg4 = m ((c.tc : Thread nD τ).loc main_arg4) := W3_args m ρ c main_arg4 (by decide)

/-- The decoder's kernel leaves the decoder's output … -/
theorem W4_out (c : Dev nD) : W4 m ρ c (Proc.devRef .tc main_v20_0) = out m c := by
  refine (W4_arr m ρ c 4).trans ((dec_array (V3 m ρ) c).trans ?_)
  rw [W3_dense, V3_arg3, V3_arg4]
/-- … the squared error … -/
theorem W4_err (c : Dev nD) : W4 m ρ c (Proc.devRef .tc main_v20_1)
    = fun _ => ∑ i : Fin 2048, rowErr (m ((c.tc : Thread nD τ).loc main_arg0)) (out m c) i := by
  refine (W4_arr m ρ c 5).trans ((err_array (V3 m ρ) c).trans ?_)
  rw [W3_dense, V3_arg0, V3_arg3, V3_arg4]
/-- … and the total variance. -/
theorem W4_tv (c : Dev nD) : W4 m ρ c (Proc.devRef .tc main_v20_2) = fun _ => tvOf (m ((c.tc : Thread nD τ).loc main_arg0)) := by
  refine (W4_arr m ρ c 6).trans ((tv_array (V3 m ρ) c).trans ?_)
  rw [V3_arg0]

/-! ## The results -/

/-- At the end of the program the four results that are not constants: the output … -/
theorem W5_out (c : Dev nD) : W5 m ρ c (Proc.devRef .tc main_v20_0) = out m c :=
  (W5_of m ρ c main_v20_0 (by decide)).trans (W4_out m ρ c)
/-- … the selected values … -/
theorem W5_values (c : Dev nD) : W5 m ρ c (Proc.devRef .tc main_values) = topVal (pre m c) :=
  (W5_of m ρ c main_values (by decide)).trans ((W4_of m ρ c main_values (by decide)).trans (W3_values m ρ c))
/-- … their positions … -/
theorem W5_indices (c : Dev nD) : W5 m ρ c (Proc.devRef .tc main_indices) = topIdx (F := Ideal) (pre m c) :=
  (W5_of m ρ c main_indices (by decide)).trans ((W4_of m ρ c main_indices (by decide)).trans (W3_indices m ρ c))
/-- … and the fraction of variance left unexplained. -/
theorem W5_fvu (c : Dev nD) : W5 m ρ c (Proc.devRef .tc main_v23) = fvuOf (m ((c.tc : Thread nD τ).loc main_arg0)) (out m c) := by
  refine (host2_fvu (W4 m ρ c)).trans ?_
  rw [W4_err, W4_tv]
  funext j
  exact fvu_eq _ _ j

/-- What the kernel's results are, and that its arguments end as they were. -/
theorem results : θ_run defs (onTc (τ := τ) (main (F := Ideal))) ⟨m, fun _ => 0, ρ⟩ fun r => ∀ c : Dev nD,
      r.2.mem ((c.tc : Thread nD τ).loc main_v20_0) = out m c
      ∧ r.2.mem ((c.tc : Thread nD τ).loc main_values) = topVal (pre m c)
      ∧ r.2.mem ((c.tc : Thread nD τ).loc main_indices) = topIdx (F := Ideal) (pre m c)
      ∧ r.2.mem ((c.tc : Thread nD τ).loc main_v23) = fvuOf (m ((c.tc : Thread nD τ).loc main_arg0)) (out m c)
      ∧ r.2.mem ((c.tc : Thread nD τ).loc main_cst_3) = (constant (F := Ideal) S_ .f32 0x00000000#32)
      ∧ r.2.mem ((c.tc : Thread nD τ).loc main_cst_4) = (constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v20_0 (by decide)).trans (W5_out m ρ c), (h c main_values (by decide)).trans (W5_values m ρ c),
      (h c main_indices (by decide)).trans (W5_indices m ρ c), (h c main_v23 (by decide)).trans (W5_fvu m ρ c),
      (h c main_cst_3 (by decide)).trans (host2_zero3 (W4 m ρ c)), (h c main_cst_4 (by decide)).trans (host2_zero4 (W4 m ρ c)),
      (h c main_arg0 (by decide)).trans (W5_args m ρ c main_arg0 (by decide)), (h c main_arg1 (by decide)).trans (W5_args m ρ c main_arg1 (by decide)),
      (h c main_arg2 (by decide)).trans (W5_args m ρ c main_arg2 (by decide)), (h c main_arg3 (by decide)).trans (W5_args m ρ c main_arg3 (by decide)),
      (h c main_arg4 (by decide)).trans (W5_args m ρ c main_arg4 (by decide))⟩) (run m ρ)

end Cert.KernelIdeal.Hand

end
-- ==== Proof.RefEnd.lean ====
/-
  The reference's run: its results are `decOf`, `topVal`, `topIdx`, `fvuOf` and zero, of the arguments; the arguments
  end as they were; every counter ends at zero.
-/
module

public import proofs.«01_k».proof.Proof.RefRun

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section Stages
variable (V : Valuation τ sig (Elt F))

/-- The contents after the encoder, after the selection, after the decoder, at the end. -/
abbrev V1 : Valuation τ sig (Elt F) := after opsEnc V
abbrev V2 : Valuation τ sig (Elt F) := after opsTop (V1 V)
abbrev V3 : Valuation τ sig (Elt F) := after opsDec (V2 V)
abbrev V4 : Valuation τ sig (Elt F) := after opsFvu (V3 V)

theorem V1_of (r : Ref sig .tc) (h : r ∉ encW) : V1 V (Proc.devRef .tc r) = V (Proc.devRef .tc r) :=
  after_of_writes_sub _ _ enc_writes h
theorem V2_of (r : Ref sig .tc) (h : r ∉ topW) : V2 V (Proc.devRef .tc r) = V1 V (Proc.devRef .tc r) :=
  after_of_writes_sub _ _ top_writes h
theorem V3_of (r : Ref sig .tc) (h : r ∉ decW) : V3 V (Proc.devRef .tc r) = V2 V (Proc.devRef .tc r) :=
  after_of_writes_sub _ _ dec_writes h
theorem V4_of (r : Ref sig .tc) (h : r ∉ fvuW) : V4 V (Proc.devRef .tc r) = V3 V (Proc.devRef .tc r) :=
  after_of_writes_sub _ _ fvu_writes h

/-- A reference that the first two stretches do not write holds its launch contents after them. -/
theorem V2_arg (r : Ref sig .tc) (h₁ : r ∉ encW) (h₂ : r ∉ topW) : V2 V (Proc.devRef .tc r) = V (Proc.devRef .tc r) :=
  (V2_of V r h₂).trans (V1_of V r h₁)
theorem V3_arg (r : Ref sig .tc) (h₁ : r ∉ encW) (h₂ : r ∉ topW) (h₃ : r ∉ decW) :
    V3 V (Proc.devRef .tc r) = V (Proc.devRef .tc r) := (V3_of V r h₃).trans (V2_arg V r h₁ h₂)
theorem V4_arg (r : Ref sig .tc) (h₁ : r ∉ encW) (h₂ : r ∉ topW) (h₃ : r ∉ decW) (h₄ : r ∉ fvuW) :
    V4 V (Proc.devRef .tc r) = V (Proc.devRef .tc r) := (V4_of V r h₄).trans (V3_arg V r h₁ h₂ h₃)

/-- The pre-activations of the arguments in `V`. -/
abbrev pre : Fl F S2048x16384 :=
  preOf (V (Proc.devRef .tc main_arg0)) (V (Proc.devRef .tc main_arg1)) (V (Proc.devRef .tc main_arg2)) (V (Proc.devRef .tc main_arg4))
/-- The decoder's output on the arguments in `V`. -/
abbrev out : Fl F S2048x2048 :=
  decOf (denseOf (pre V)) (V (Proc.devRef .tc main_arg3)) (V (Proc.devRef .tc main_arg4))

theorem V4_values : V4 V (Proc.devRef .tc main_values) = topVal (pre V) := by
  rw [V4_of V _ (by decide), V3_of V _ (by decide), V2, top_val, V1, enc_pre]
theorem V4_indices : V4 V (Proc.devRef .tc main_indices) = topIdx (F := F) (pre V) := by
  rw [V4_of V _ (by decide), V3_of V _ (by decide), V2, top_idx, V1, enc_pre]
theorem V3_out : V3 V (Proc.devRef .tc main_v104) = out V := by
  rw [V3, dec_out, V2_arg V main_arg3 (by decide) (by decide), V2_arg V main_arg4 (by decide) (by decide), V2, top_dense, V1, enc_pre]
theorem V4_out : V4 V (Proc.devRef .tc main_v104) = out V := by
  rw [V4_of V _ (by decide), V3_out]
theorem V4_fvu : V4 V (Proc.devRef .tc main_v116) = fvuOf (V (Proc.devRef .tc main_arg0)) (out V) := by
  rw [V4, fvu_fvu, V3_out, V3_arg V main_arg0 (by decide) (by decide) (by decide)]

end Stages

/-- The launch contents of device `c`. -/
abbrev L0 (m : (ℓ : Loc nD τ sig) → Buf (Elt F) ℓ) (c : Dev nD) : Valuation τ sig (Elt F) := launchContents m c

/-- What the reference's results are, and that its arguments end as they were. -/
theorem results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = out (L0 m c)
      ∧ r.2.mem ((c.tc : Thread nD τ).loc main_values) = topVal (pre (L0 m c))
      ∧ r.2.mem ((c.tc : Thread nD τ).loc main_indices) = topIdx (F := F) (pre (L0 m c))
      ∧ r.2.mem ((c.tc : Thread nD τ).loc main_v116) = fvuOf (m ((c.tc : Thread nD τ).loc main_arg0)) (out (L0 m c))
      ∧ r.2.mem ((c.tc : Thread nD τ).loc main_cst_7) = (constant S_ .f32 0x00000000#32 : Fl F S_)
      ∧ r.2.mem ((c.tc : Thread nD τ).loc main_cst_8) = (constant S_ .f32 0x00000000#32 : Fl F S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v104).trans (V4_out _), (h c main_values).trans (V4_values _), (h c main_indices).trans (V4_indices _),
      (h c main_v116).trans (V4_fvu _), (h c main_cst_7).trans (fvu_zero7 _), (h c main_cst_8).trans (fvu_zero8 _),
      (h c main_arg0).trans (V4_arg _ _ (by decide) (by decide) (by decide) (by decide)),
      (h c main_arg1).trans (V4_arg _ _ (by decide) (by decide) (by decide) (by decide)),
      (h c main_arg2).trans (V4_arg _ _ (by decide) (by decide) (by decide) (by decide)),
      (h c main_arg3).trans (V4_arg _ _ (by decide) (by decide) (by decide) (by decide)),
      (h c main_arg4).trans (V4_arg _ _ (by decide) (by decide) (by decide) (by decide))⟩) (run m ρ)

/-- The reference leaves its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2.2.2.2, sem_eq_zero_of_no_sems (by decide) r.2⟩) (results m ρ)

end Cert.ReferenceIdeal.Hand

end
-- ==== Proof.lean ====
/-
  The certificate: the three programs run to the end, leave their arguments as they were and every counter at zero; the
  kernel over the extended reals is the printed kernel; and on equal arguments it computes what the reference computes,
  all six results of it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelEnd
public import proofs.«01_k».proof.Proof.RefEnd
public import Idealize.ShloMosaic.Adequacy
public import Idealize.ShloMosaic.Init

@[expose] public section

noncomputable section

namespace Cert.Proof

open Idealize.ShloMosaic Idealize.ShloMosaic.TcCoe Idealize.SL.Sem

/-- From equal arguments the kernel and the reference end with equal results: both are the same functions of the
    arguments, by `Cert.KernelIdeal.Hand.results` and `Cert.ReferenceIdeal.Hand.results`. -/
theorem algebraic [Cert.KernelIdeal.Facts] [Cert.ReferenceIdeal.Facts] : Cert.algebraic_KernelIdeal_ReferenceIdeal := by
  intro m g m' g' _ ha
  refine ⟨_, _, _, _, _, _, Cert.KernelIdeal.Hand.results m g, ?_⟩
  refine (θ_run Cert.ReferenceIdeal.defs _ _).mono (fun r h c => ?_) (Cert.ReferenceIdeal.Hand.results (F := Ideal) m' g')
  obtain ⟨a0, a1, a2, a3, a4⟩ := ha c
  obtain ⟨h0, h1, h2, h3, h4, h5, hargs⟩ := h c
  have ep : Cert.ReferenceIdeal.Hand.pre (Cert.ReferenceIdeal.Hand.L0 m' c) = Cert.KernelIdeal.Hand.pre m c := by
    show Cert.ReferenceIdeal.Hand.preOf _ _ _ _ = Cert.ReferenceIdeal.Hand.preOf _ _ _ _
    rw [← a0, ← a1, ← a2, ← a4]
  have eo : Cert.ReferenceIdeal.Hand.out (Cert.ReferenceIdeal.Hand.L0 m' c) = Cert.KernelIdeal.Hand.out m c := by
    show Cert.ReferenceIdeal.Hand.decOf (Cert.ReferenceIdeal.Hand.denseOf _) _ _ = Cert.ReferenceIdeal.Hand.decOf (Cert.ReferenceIdeal.Hand.denseOf _) _ _
    rw [ep, ← a3, ← a4]
  exact ⟨h0.trans eo, h1.trans (congrArg _ ep), h2.trans (congrArg _ ep), h3.trans (congrArg₂ _ a0 eo), h4, h5, hargs⟩

/-- Everything that is claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Hand.frame m ρ, trivial, algebraic⟩

end Cert.Proof

end
